-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boundary_clear [hPre_boundary_clear : Cert.Pre_boundary_clear.Facts] (m : (ℓ : Loc Cert.KernelIdeal.nD Cert.KernelIdeal.τ Cert.KernelIdeal.sig) → Buf (Elt Ideal) ℓ) : Prop :=
  ∀ c : Dev Cert.KernelIdeal.nD,
    (Cert.Pre_boundary_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_boundary_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boundary_clear [hPre_boundary_clear : Cert.Pre_boundary_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boundary_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_boundary_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_boundary_clear [hKernelIdeal : Cert.KernelIdeal.Facts] [hPre_boundary_clear : Cert.Pre_boundary_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boundary_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_boundary_clear [hReferenceIdeal : Cert.ReferenceIdeal.Facts] [hPre_boundary_clear : Cert.Pre_boundary_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boundary_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_boundary_clear [hKernelIdeal : Cert.KernelIdeal.Facts] [hReferenceIdeal : Cert.ReferenceIdeal.Facts] [hPre_boundary_clear : Cert.Pre_boundary_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boundary_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_boundary_clear : Cert.Pre_boundary_clear.Facts),
    quiescent_Kernel (hKernel := hKernel)
    ∧ quiescent_KernelIdeal (hKernelIdeal := hKernelIdeal)
    ∧ quiescent_KernelIdeal_pre_boundary_clear (hKernelIdeal := hKernelIdeal) (hPre_boundary_clear := hPre_boundary_clear)
    ∧ quiescent_ReferenceIdeal (hReferenceIdeal := hReferenceIdeal)
    ∧ quiescent_ReferenceIdeal_pre_boundary_clear (hReferenceIdeal := hReferenceIdeal) (hPre_boundary_clear := hPre_boundary_clear)
    ∧ preserves_Kernel_KernelIdeal
    ∧ algebraic_KernelIdeal_ReferenceIdeal_pre_boundary_clear (hKernelIdeal := hKernelIdeal) (hReferenceIdeal := hReferenceIdeal) (hPre_boundary_clear := hPre_boundary_clear)
-- ==== Pre_boundary_clear.lean ====
abbrev S32x8732x4 : Shape := ⟨3, ![32, 8732, 4]⟩
abbrev S32x8732x81 : Shape := ⟨3, ![32, 8732, 81]⟩
abbrev S32x8732 : Shape := ⟨2, ![32, 8732]⟩
abbrev S_ : Shape := ⟨0, ![]⟩
abbrev S32x8732x1 : Shape := ⟨3, ![32, 8732, 1]⟩
abbrev S32x8732x1x1 : Shape := ⟨4, ![32, 8732, 1, 1]⟩
abbrev S1 : Shape := ⟨1, ![1]⟩
abbrev S1x1x1x1 : Shape := ⟨4, ![1, 1, 1, 1]⟩
abbrev S32 : Shape := ⟨1, ![32]⟩
abbrev S32x1 : Shape := ⟨2, ![32, 1]⟩

class Facts : Prop where
  bcast_S_S32x8732 : S_.BroadcastsInDim S32x8732 (![] : Fin 0 → Fin S32x8732.rank)
  reducesTo_S32x8732x81_S32x8732_d2 : S32x8732x81.ReducesTo [2] S32x8732
  h_S_ : 0 < S_.numel
  bcast_S32x8732_S32x8732x1_0_1 : S32x8732.BroadcastsInDim S32x8732x1 (![0, 1] : Fin 2 → Fin S32x8732x1.rank)
  bcast_S_S32x8732x1 : S_.BroadcastsInDim S32x8732x1 (![] : Fin 0 → Fin S32x8732x1.rank)
  shapeCasts_S32x8732x1_S32x8732x1x1 : S32x8732x1.ShapeCasts S32x8732x1x1
  bcast_S_S32x8732x1x1 : S_.BroadcastsInDim S32x8732x1x1 (![] : Fin 0 → Fin S32x8732x1x1.rank)
  bcast_S1_S1x1x1x1_3 : S1.BroadcastsInDim S1x1x1x1 (![3] : Fin 1 → Fin S1x1x1x1.rank)
  bcast_S1x1x1x1_S32x8732x1x1_0_1_2_3 : S1x1x1x1.BroadcastsInDim S32x8732x1x1 (![0, 1, 2, 3] : Fin 4 → Fin S32x8732x1x1.rank)
  reducesTo_S32x8732x1x1_S32x8732x1_d3 : S32x8732x1x1.ReducesTo [3] S32x8732x1
  shapeCasts_S32x8732x1_S32x8732 : S32x8732x1.ShapeCasts S32x8732
  natLt_1_32 : 1 < 32
  reducesTo_S32x8732_S32_d1 : S32x8732.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x8732_0_1 : S32x1.BroadcastsInDim S32x8732 (![0, 1] : Fin 2 → Fin S32x8732.rank)
  bcast_S_S32x8732x81 : S_.BroadcastsInDim S32x8732x81 (![] : Fin 0 → Fin S32x8732x81.rank)
  gather_S32x8732x81_S32x8732x1x1_S32x8732x1_n_2_01_01_2_3_111_wf : GatherDims.WF S32x8732x81 S32x8732x1x1 S32x8732x1 [] [2] [0, 1] [2] [0, 1] 3 ![1, 1, 1]

variable [Facts]

variable {F : FTy → Type} [FloatOps F]
def gather_S32x8732x81_S32x8732x1x1_S32x8732x1_n_2_01_01_2_3_111 : GatherDims S32x8732x81 S32x8732x1x1 S32x8732x1 where
  offsetDims := []
  collapsedSliceDims := [2]
  operandBatchingDims := [0, 1]
  startIndicesBatchingDims := [0, 1]
  startIndexMap := [2]
  indexVectorDim := 3
  sliceSizes := ![1, 1, 1]
  wf := gather_S32x8732x81_S32x8732x1x1_S32x8732x1_n_2_01_01_2_3_111_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d1 : BitVec 32 × BitVec 32 → BitVec 32 × BitVec 32 → BitVec 1 :=
  fun l r =>
    let v2 := IntOp.cmpi .slt l.1 r.1
    v2

def fn_clip {F : FTy → Type} [FloatOps F] (arg0 : IVec S32x8732 32) (arg1 : IVec S_ 32) (arg2 : IVec S_ 32) : IVec S32x8732 32 :=
  let v0 : IVec S_ 32 := id arg1
  let v1 : IVec S32x8732 32 := broadcastInDim S32x8732 ![] bcast_S_S32x8732 v0
  let v2 : IVec S32x8732 32 := maxsi v1 arg0
  let v3 : IVec S_ 32 := id arg2
  let v4 : IVec S32x8732 32 := broadcastInDim S32x8732 ![] bcast_S_S32x8732 v3
  let v5 : IVec S32x8732 32 := minsi v4 v2
  v5

def fn_take_along_axis {F : FTy → Type} [FloatOps F] (arg0 : FVec F S32x8732x81 .f32) (arg1 : IVec S32x8732x1 32) : FVec F S32x8732x1 .f32 :=
  let c : IVec S_ 32 := constantI S_ 32 0#32
  let v0 : IVec S32x8732x1 32 := broadcastInDim S32x8732x1 ![] bcast_S_S32x8732x1 c
  let v1 : IVec S32x8732x1 1 := cmpi .slt arg1 v0
  let c_0 : IVec S_ 32 := constantI S_ 32 81#32
  let v2 : IVec S32x8732x1 32 := broadcastInDim S32x8732x1 ![] bcast_S_S32x8732x1 c_0
  let v3 : IVec S32x8732x1 32 := addi arg1 v2
  let v4 : IVec S32x8732x1 32 := select v1 v3 arg1
  let v5 : IVec S32x8732x1x1 32 := shapeCast S32x8732x1x1 v4 shapeCasts_S32x8732x1_S32x8732x1x1
  let c_1 : IVec S1 32 := constantI S1 32 80#32
  let c_2 : IVec S_ 32 := constantI S_ 32 0#32
  let v6 : IVec S32x8732x1x1 32 := broadcastInDim S32x8732x1x1 ![] bcast_S_S32x8732x1x1 c_2
  let v7 : IVec S32x8732x1x1 1 := cmpi .sge v5 v6
  let v8 : IVec S1x1x1x1 32 := broadcastInDim S1x1x1x1 ![3] bcast_S1_S1x1x1x1_3 c_1
  let v9 : IVec S32x8732x1x1 32 := broadcastInDim S32x8732x1x1 ![0, 1, 2, 3] bcast_S1x1x1x1_S32x8732x1x1_0_1_2_3 v8
  let v10 : IVec S32x8732x1x1 1 := cmpi .sle v5 v9
  let v11 : IVec S32x8732x1x1 1 := andi v7 v10
  let c_3 : IVec S_ 1 := constantI S_ 1 1#1
  let v12 : IVec S32x8732x1 1 := (fun x v => Host.reduce IntOp.andi x v reducesTo_S32x8732x1x1_S32x8732x1_d3 h_S_) v11 c_3
  let v13 : FVec F S32x8732x1 .f32 := (fun x i => Host.gather gather_S32x8732x81_S32x8732x1x1_S32x8732x1_n_2_01_01_2_3_111 x i) arg0 v5
  let cst : FVec F S_ .f32 := constant S_ .f32 0x7FC00000#32
  let v14 : FVec F S32x8732x1 .f32 := broadcastInDim S32x8732x1 ![] bcast_S_S32x8732x1 cst
  let v15 : FVec F S32x8732x1 .f32 := select v12 v13 v14
  v15

def fn_where {F : FTy → Type} [FloatOps F] (arg0 : IVec S32x8732 1) (arg1 : FVec F S_ .f32) (arg2 : FVec F S32x8732 .f32) : FVec F S32x8732 .f32 :=
  let v0 : FVec F S_ .f32 := id arg1
  let v1 : FVec F S32x8732 .f32 := broadcastInDim S32x8732 ![] bcast_S_S32x8732 v0
  let v2 : FVec F S32x8732 .f32 := select arg0 v1 arg2
  v2

def fn_argsort {F : FTy → Type} [FloatOps F] (arg0 : FVec F S32x8732 .f32) : IVec S32x8732 32 :=
  let v0 : IVec S32x8732 32 := iotaInDim S32x8732 32 1
  let v1_0 : FVec F S32x8732 .f32 := (fun x y => (Host.sort2 S32x8732 1 comparator_f32_i32_d1 x y).1) arg0 v0
  let v1_1 : IVec S32x8732 32 := (fun x y => (Host.sort2 S32x8732 1 comparator_f32_i32_d1 x y).2) arg0 v0
  v1_1

def fn_argsort_0 {F : FTy → Type} [FloatOps F] (arg0 : IVec S32x8732 32) : IVec S32x8732 32 :=
  let v0 : IVec S32x8732 32 := iotaInDim S32x8732 32 1
  let v1_0 : IVec S32x8732 32 := (fun x y => (Host.sort2 S32x8732 1 comparator_i32_i32_d1 x y).1) arg0 v0
  let v1_1 : IVec S32x8732 32 := (fun x y => (Host.sort2 S32x8732 1 comparator_i32_i32_d1 x y).2) arg0 v0
  v1_1

def fn_where_1 {F : FTy → Type} [FloatOps F] (arg0 : IVec S32x8732 1) (arg1 : FVec F S32x8732 .f32) (arg2 : FVec F S_ .f32) : FVec F S32x8732 .f32 :=
  let v0 : FVec F S_ .f32 := id arg2
  let v1 : FVec F S32x8732 .f32 := broadcastInDim S32x8732 ![] bcast_S_S32x8732 v0
  let v2 : FVec F S32x8732 .f32 := select arg0 arg1 v1
  v2

def fn_part3 {F : FTy → Type} [FloatOps F] (main_arg2 : FVec F S32x8732x81 .f32) (main_arg3 : IVec S32x8732 32) (main_v48 : IVec S32 1) (main_v50 : IVec S32x8732 1) (main_c_18 : IVec S_ 32) : IVec S32x8732x81 1 × IVec S32x8732 1 :=
  let main_v51 : IVec S32x8732 32 := broadcastInDim S32x8732 ![] bcast_S_S32x8732 main_c_18
  let main_v52 : IVec S32x8732 1 := cmpi .sle main_arg3 main_v51
  let main_v53 : IVec S32x8732 1 := andi main_v50 main_v52
  let main_v54 : FVec F S32x8732x81 .f32 := Host.absf main_arg2
  let main_cst_19 : FVec F S_ .f32 := constant S_ .f32 0x7F800000#32
  let main_v55 : FVec F S32x8732x81 .f32 := broadcastInDim S32x8732x81 ![] bcast_S_S32x8732x81 main_cst_19
  let main_v56 : IVec S32x8732x81 1 := cmpf .olt main_v54 main_v55
  let main_v57 : IVec S32x1 1 := broadcastInDim S32x1 ![0] bcast_S32_S32x1_0 main_v48
  let main_v58 : IVec S32x8732 1 := broadcastInDim S32x8732 ![0, 1] bcast_S32x1_S32x8732_0_1 main_v57
  let main_v59 : IVec S32x8732 1 := andi main_v53 main_v58
  (main_v56, main_v59)

def fn_part2 {F : FTy → Type} [FloatOps F] (main_arg2 : FVec F S32x8732x81 .f32) (main_arg3 : IVec S32x8732 32) (main_v22 : IVec S32 32) (main_v28 : FVec F S32 .f32) (main_v32 : IVec S32 1) (main_v33 : FVec F S32 .f32) : IVec S32x8732x81 1 × IVec S32x8732 1 :=
  let main_cst_12 : FVec F S_ .f32 := constant S_ .f32 0x34000000#32
  let main_v34 : FVec F S32 .f32 := broadcastInDim S32 ![] bcast_S_S32 main_cst_12
  let main_v35 : FVec F S32 .f32 := mulf main_v28 main_v34
  let main_cst_13 : FVec F S_ .f32 := constant S_ .f32 0x00800000#32
  let main_v36 : FVec F S32 .f32 := broadcastInDim S32 ![] bcast_S_S32 main_cst_13
  let main_v37 : FVec F S32 .f32 := addf main_v35 main_v36
  let main_v38 : IVec S32 1 := cmpf .oge main_v33 main_v37
  let main_v39 : IVec S32 1 := andi main_v32 main_v38
  let main_c_14 : IVec S_ 32 := constantI S_ 32 0#32
  let main_v40 : IVec S32 32 := broadcastInDim S32 ![] bcast_S_S32 main_c_14
  let main_v41 : IVec S32 1 := cmpi .eq main_v22 main_v40
  let main_c_15 : IVec S_ 32 := constantI S_ 32 8732#32
  let main_v42 : IVec S32 32 := broadcastInDim S32 ![] bcast_S_S32 main_c_15
  let main_v43 : IVec S32 1 := cmpi .sge main_v22 main_v42
  let main_v44 : IVec S32 1 := ori main_v41 main_v43
  let main_cst_16 : FVec F S_ .f32 := constant S_ .f32 0x00000000#32
  let main_v45 : FVec F S32 .f32 := broadcastInDim S32 ![] bcast_S_S32 main_cst_16
  let main_v46 : IVec S32 1 := cmpf .oeq main_v28 main_v45
  let main_v47 : IVec S32 1 := ori main_v44 main_v46
  let main_v48 : IVec S32 1 := ori main_v47 main_v39
  let main_c_17 : IVec S_ 32 := constantI S_ 32 0#32
  let main_v49 : IVec S32x8732 32 := broadcastInDim S32x8732 ![] bcast_S_S32x8732 main_c_17
  let main_v50 : IVec S32x8732 1 := cmpi .sge main_arg3 main_v49
  let main_c_18 : IVec S_ 32 := constantI S_ 32 80#32
  fn_part3 (F := F) main_arg2 main_arg3 main_v48 main_v50 main_c_18

def fn_part1 {F : FTy → Type} [FloatOps F] (main_arg2 : FVec F S32x8732x81 .f32) (main_arg3 : IVec S32x8732 32) (main_v1 : IVec S32x8732 1) (main_v16 : FVec F S32x8732 .f32) : IVec S32x8732x81 1 × IVec S32x8732 1 :=
  let main_v17 : IVec S32x8732 32 := fn_argsort (F := F) main_v16
  let main_v18 : IVec S32x8732 32 := fn_argsort_0 (F := F) main_v17
  let main_v19 : IVec S32x8732 32 := (extui 32 · natLt_1_32) main_v1
  let main_c_5 : IVec S_ 32 := constantI S_ 32 0#32
  let main_v20 : IVec S32 32 := (fun x v => Host.reduce IntOp.addi x v reducesTo_S32x8732_S32_d1 h_S_) main_v19 main_c_5
  let main_c_6 : IVec S_ 32 := constantI S_ 32 3#32
  let main_v21 : IVec S32 32 := broadcastInDim S32 ![] bcast_S_S32 main_c_6
  let main_v22 : IVec S32 32 := muli main_v21 main_v20
  let main_v23 : IVec S32x1 32 := broadcastInDim S32x1 ![0] bcast_S32_S32x1_0 main_v22
  let main_v24 : IVec S32x8732 32 := broadcastInDim S32x8732 ![0, 1] bcast_S32x1_S32x8732_0_1 main_v23
  let main_v25 : IVec S32x8732 1 := cmpi .slt main_v18 main_v24
  let main_v26 : FVec F S32x8732 .f32 := Host.negf main_v16
  let main_cst_7 : FVec F S_ .f32 := constant S_ .f32 0x7F800000#32
  let main_v27 : FVec F S32x8732 .f32 := fn_where_1 (F := F) main_v25 main_v26 main_cst_7
  let main_cst_8 : FVec F S_ .f32 := constant S_ .f32 0x7F800000#32
  let main_v28 : FVec F S32 .f32 := (fun x v => Host.reduce FloatOps.minimumf x v reducesTo_S32x8732_S32_d1 h_S_) main_v27 main_cst_8
  let main_cst_9 : FVec F S_ .f32 := constant S_ .f32 0xFF800000#32
  let main_v29 : FVec F S32x8732 .f32 := fn_where (F := F) main_v25 main_cst_9 main_v26
  let main_cst_10 : FVec F S_ .f32 := constant S_ .f32 0xFF800000#32
  let main_v30 : FVec F S32 .f32 := (fun x v => Host.reduce FloatOps.maximumf x v reducesTo_S32x8732_S32_d1 h_S_) main_v29 main_cst_10
  let main_cst_11 : FVec F S_ .f32 := constant S_ .f32 0x7F7FFFFF#32
  let main_v31 : FVec F S32 .f32 := broadcastInDim S32 ![] bcast_S_S32 main_cst_11
  let main_v32 : IVec S32 1 := cmpf .ole main_v28 main_v31
  let main_v33 : FVec F S32 .f32 := subf main_v28 main_v30
  fn_part2 (F := F) main_arg2 main_arg3 main_v22 main_v28 main_v32 main_v33

def fn {F : FTy → Type} [FloatOps F] (main_arg0 : FVec F S32x8732x4 .f32) (main_arg1 : FVec F S32x8732x4 .f32) (main_arg2 : FVec F S32x8732x81 .f32) (main_arg3 : IVec S32x8732 32) : IVec S32x8732x81 1 × IVec S32x8732 1 :=
  let main_c : IVec S_ 32 := constantI S_ 32 0#32
  let main_v0 : IVec S32x8732 32 := broadcastInDim S32x8732 ![] bcast_S_S32x8732 main_c
  let main_v1 : IVec S32x8732 1 := cmpi .sgt main_arg3 main_v0
  let main_v2 : FVec F S32x8732x81 .f32 := Host.exp main_arg2
  let main_cst : FVec F S_ .f32 := constant S_ .f32 0x00000000#32
  let main_v3 : FVec F S32x8732 .f32 := (fun x v => Host.reduceAdd x v reducesTo_S32x8732x81_S32x8732_d2 h_S_) main_v2 main_cst
  let main_v4 : FVec F S32x8732 .f32 := Host.log main_v3
  let main_c_0 : IVec S_ 32 := constantI S_ 32 0#32
  let main_c_1 : IVec S_ 32 := constantI S_ 32 80#32
  let main_v5 : IVec S32x8732 32 := fn_clip (F := F) main_arg3 main_c_0 main_c_1
  let main_v6 : IVec S32x8732x1 32 := broadcastInDim S32x8732x1 ![0, 1] bcast_S32x8732_S32x8732x1_0_1 main_v5
  let main_v7 : FVec F S32x8732x1 .f32 := fn_take_along_axis (F := F) main_arg2 main_v6
  let main_v8 : FVec F S32x8732 .f32 := shapeCast S32x8732 main_v7 shapeCasts_S32x8732x1_S32x8732
  let main_v9 : FVec F S32x8732 .f32 := subf main_v4 main_v8
  let main_c_2 : IVec S_ 32 := constantI S_ 32 0#32
  let main_v10 : IVec S32x8732 32 := broadcastInDim S32x8732 ![] bcast_S_S32x8732 main_c_2
  let main_v11 : IVec S32x8732 1 := cmpi .slt main_arg3 main_v10
  let main_cst_3 : FVec F S_ .f32 := constant S_ .f32 0x00000000#32
  let main_v12 : FVec F S32x8732 .f32 := fn_where (F := F) main_v11 main_cst_3 main_v9
  let main_v13 : FVec F S32x8732 .f32 := uitofp .f32 main_v1
  let main_cst_4 : FVec F S_ .f32 := constant S_ .f32 0x3F800000#32
  let main_v14 : FVec F S32x8732 .f32 := broadcastInDim S32x8732 ![] bcast_S_S32x8732 main_cst_4
  let main_v15 : FVec F S32x8732 .f32 := subf main_v13 main_v14
  let main_v16 : FVec F S32x8732 .f32 := mulf main_v12 main_v15
  fn_part1 (F := F) main_arg2 main_arg3 main_v1 main_v16
-- ==== Kernel.lean ====
abbrev S32x8732x4 : Shape := ⟨3, ![32, 8732, 4]⟩
abbrev S32x8732x81 : Shape := ⟨3, ![32, 8732, 81]⟩
abbrev S32x8732 : Shape := ⟨2, ![32, 8732]⟩
abbrev S32x4x8732 : Shape := ⟨3, ![32, 4, 8732]⟩
abbrev S128x8732 : Shape := ⟨2, ![128, 8732]⟩
abbrev S1x1 : Shape := ⟨2, ![1, 1]⟩
abbrev S_ : Shape := ⟨0, ![]⟩
abbrev S1x8732x81 : Shape := ⟨3, ![1, 8732, 81]⟩
abbrev S8x8732 : Shape := ⟨2, ![8, 8732]⟩
abbrev S4 : Shape := ⟨1, ![4]⟩
abbrev S1 : Shape := ⟨1, ![1]⟩
abbrev S8732 : Shape := ⟨1, ![8732]⟩
abbrev S1x8732 : Shape := ⟨2, ![1, 8732]⟩
abbrev S8732x1 : Shape := ⟨2, ![8732, 1]⟩
abbrev S8732x81 : Shape := ⟨2, ![8732, 81]⟩
abbrev S1x1x8732 : Shape := ⟨3, ![1, 1, 8732]⟩
abbrev S1x1x1 : Shape := ⟨3, ![1, 1, 1]⟩

abbrev nBuf : Space → Nat
  | .hbm => 10
  | .vmem => 9
  | .smem => 1
  | _ => 0

abbrev bufTy : (tb : Table) → Fin (tcTables nBuf tb) → BufTy
  | .hbm, ⟨0, _⟩ => ⟨S32x8732x4, .f32⟩
  | .hbm, ⟨1, _⟩ => ⟨S32x8732x4, .f32⟩
  | .hbm, ⟨2, _⟩ => ⟨S32x8732x81, .f32⟩
  | .hbm, ⟨3, _⟩ => ⟨S32x8732, .i32⟩
  | .hbm, ⟨4, _⟩ => ⟨S32x4x8732, .f32⟩
  | .hbm, ⟨5, _⟩ => ⟨S128x8732, .f32⟩
  | .hbm, ⟨6, _⟩ => ⟨S32x4x8732, .f32⟩
  | .hbm, ⟨7, _⟩ => ⟨S128x8732, .f32⟩
  | .hbm, ⟨8, _⟩ => ⟨S1x1, .f32⟩
  | .hbm, ⟨9, _⟩ => ⟨S_, .f32⟩
  | .local _ .vmem, ⟨0, _⟩ => ⟨S1x8732x81, .f32⟩
  | .local _ .vmem, ⟨1, _⟩ => ⟨S1x8732x81, .f32⟩
  | .local _ .vmem, ⟨2, _⟩ => ⟨S8x8732, .i32⟩
  | .local _ .vmem, ⟨3, _⟩ => ⟨S8x8732, .i32⟩
  | .local _ .vmem, ⟨4, _⟩ => ⟨S8x8732, .f32⟩
  | .local _ .vmem, ⟨5, _⟩ => ⟨S8x8732, .f32⟩
  | .local _ .vmem, ⟨6, _⟩ => ⟨S8x8732, .f32⟩
  | .local _ .vmem, ⟨7, _⟩ => ⟨S8x8732, .f32⟩
  | .local _ .vmem, ⟨8, _⟩ => ⟨S1x1, .f32⟩
  | .local _ .smem, ⟨0, _⟩ => ⟨S4, .f32⟩
  | _, _ => ⟨S32x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_43 : BitVec 32 := 0#32
  let c31_i32_44 : BitVec 32 := 31#32
  let v121 : BitVec 32 := Scalar.addi c0_i32_43 c31_i32_44
  let c1_i32_45 : BitVec 32 := 1#32
  ⟨c0_i32_43, v121, c1_i32_45⟩
def k0_cond3 (i : grid0.Coords) : BitVec 1 :=
  let arg0 : BitVec 32 := BitVec.ofNat 32 (i 0).val
  let c31_i32 : BitVec 32 := 31#32
  let v118 : BitVec 1 := Scalar.cmpi .eq arg0 c31_i32
  let v119 : BitVec 32 := Scalar.extui v118
  let c0_i32_41 : BitVec 32 := 0#32
  let v120 : BitVec 1 := Scalar.cmpi .ne v119 c0_i32_41
  v120

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8732x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8732 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8732 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8732 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x8732x4 : Shape := ⟨3, ![32, 8732, 4]⟩
abbrev S32x8732x81 : Shape := ⟨3, ![32, 8732, 81]⟩
abbrev S32x8732 : Shape := ⟨2, ![32, 8732]⟩
abbrev S_ : Shape := ⟨0, ![]⟩
abbrev S32x8732x1 : Shape := ⟨3, ![32, 8732, 1]⟩
abbrev S32x8732x1x1 : Shape := ⟨4, ![32, 8732, 1, 1]⟩
abbrev S1 : Shape := ⟨1, ![1]⟩
abbrev S1x1x1x1 : Shape := ⟨4, ![1, 1, 1, 1]⟩
abbrev S32 : Shape := ⟨1, ![32]⟩
abbrev S32x1 : Shape := ⟨2, ![32, 1]⟩

abbrev nBuf : Space → Nat
  | .hbm => 102
  | .vmem => 0
  | .smem => 0
  | _ => 0

abbrev bufTy : (tb : Table) → Fin (tcTables nBuf tb) → BufTy
  | .hbm, ⟨0, _⟩ => ⟨S32x8732x4, .f32⟩
  | .hbm, ⟨1, _⟩ => ⟨S32x8732x4, .f32⟩
  | .hbm, ⟨2, _⟩ => ⟨S32x8732x81, .f32⟩
  | .hbm, ⟨3, _⟩ => ⟨S32x8732, .i32⟩
  | .hbm, ⟨4, _⟩ => ⟨S_, .i32⟩
  | .hbm, ⟨5, _⟩ => ⟨S32x8732, .i32⟩
  | .hbm, ⟨6, _⟩ => ⟨S32x8732, .i1⟩
  | .hbm, ⟨7, _⟩ => ⟨S32x8732x81, .f32⟩
  | .hbm, ⟨8, _⟩ => ⟨S_, .f32⟩
  | .hbm, ⟨9, _⟩ => ⟨S32x8732, .f32⟩
  | .hbm, ⟨10, _⟩ => ⟨S32x8732, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S32x8732, .i32⟩
  | .hbm, ⟨15, _⟩ => ⟨S32x8732, .i32⟩
  | .hbm, ⟨16, _⟩ => ⟨S_, .i32⟩
  | .hbm, ⟨17, _⟩ => ⟨S32x8732, .i32⟩
  | .hbm, ⟨18, _⟩ => ⟨S32x8732, .i32⟩
  | .hbm, ⟨19, _⟩ => ⟨S32x8732x1, .i32⟩
  | .hbm, ⟨20, _⟩ => ⟨S_, .i32⟩
  | .hbm, ⟨21, _⟩ => ⟨S32x8732x1, .i32⟩
  | .hbm, ⟨22, _⟩ => ⟨S32x8732x1, .i1⟩
  | .hbm, ⟨23, _⟩ => ⟨S_, .i32⟩
  | .hbm, ⟨24, _⟩ => ⟨S32x8732x1, .i32⟩
  | .hbm, ⟨25, _⟩ => ⟨S32x8732x1, .i32⟩
  | .hbm, ⟨26, _⟩ => ⟨S32x8732x1, .i32⟩
  | .hbm, ⟨27, _⟩ => ⟨S32x8732x1x1, .i32⟩
  | .hbm, ⟨28, _⟩ => ⟨S1, .i32⟩
  | .hbm, ⟨29, _⟩ => ⟨S_, .i32⟩
  | .hbm, ⟨30, _⟩ => ⟨S32x8732x1x1, .i32⟩
  | .hbm, ⟨31, _⟩ => ⟨S32x8732x1x1, .i1⟩
  | .hbm, ⟨32, _⟩ => ⟨S1x1x1x1, .i32⟩
  | .hbm, ⟨33, _⟩ => ⟨S32x8732x1x1, .i32⟩
  | .hbm, ⟨34, _⟩ => ⟨S32x8732x1x1, .i1⟩
  | .hbm, ⟨35, _⟩ => ⟨S32x8732x1x1, .i1⟩
  | .hbm, ⟨36, _⟩ => ⟨S_, .i1⟩
  | .hbm, ⟨37, _⟩ => ⟨S32x8732x1, .i1⟩
  | .hbm, ⟨38, _⟩ => ⟨S32x8732x1, .f32⟩
  | .hbm, ⟨39, _⟩ => ⟨S_, .f32⟩
  | .hbm, ⟨40, _⟩ => ⟨S32x8732x1, .f32⟩
  | .hbm, ⟨41, _⟩ => ⟨S32x8732x1, .f32⟩
  | .hbm, ⟨42, _⟩ => ⟨S32x8732, .f32⟩
  | .hbm, ⟨43, _⟩ => ⟨S32x8732, .f32⟩
  | .hbm, ⟨44, _⟩ => ⟨S_, .i32⟩
  | .hbm, ⟨45, _⟩ => ⟨S32x8732, .i32⟩
  | .hbm, ⟨46, _⟩ => ⟨S32x8732, .i1⟩
  | .hbm, ⟨47, _⟩ => ⟨S_, .f32⟩
  | .hbm, ⟨48, _⟩ => ⟨S_, .f32⟩
  | .hbm, ⟨49, _⟩ => ⟨S32x8732, .f32⟩
  | .hbm, ⟨50, _⟩ => ⟨S32x8732, .f32⟩
  | .hbm, ⟨51, _⟩ => ⟨S32x8732, .f32⟩
  | .hbm, ⟨52, _⟩ => ⟨S_, .f32⟩
  | .hbm, ⟨53, _⟩ => ⟨S32x8732, .f32⟩
  | .hbm, ⟨54, _⟩ => ⟨S32x8732, .f32⟩
  | .hbm, ⟨55, _⟩ => ⟨S32x8732, .f32⟩
  | .hbm, ⟨56, _⟩ => ⟨S32x8732, .i32⟩
  | .hbm, ⟨57, _⟩ => ⟨S32x8732, .f32⟩
  | .hbm, ⟨58, _⟩ => ⟨S32x8732, .i32⟩
  | .hbm, ⟨59, _⟩ => ⟨S32x8732, .i32⟩
  | .hbm, ⟨60, _⟩ => ⟨S32x8732, .i32⟩
  | .hbm, ⟨61, _⟩ => ⟨S32x8732, .i32⟩
  | .hbm, ⟨62, _⟩ => ⟨S32x8732, .i32⟩
  | .hbm, ⟨63, _⟩ => ⟨S_, .i32⟩
  | .hbm, ⟨64, _⟩ => ⟨S32, .i32⟩
  | .hbm, ⟨65, _⟩ => ⟨S_, .i32⟩
  | .hbm, ⟨66, _⟩ => ⟨S32, .i32⟩
  | .hbm, ⟨67, _⟩ => ⟨S32, .i32⟩
  | .hbm, ⟨68, _⟩ => ⟨S32x1, .i32⟩
  | .hbm, ⟨69, _⟩ => ⟨S32x8732, .i32⟩
  | .hbm, ⟨70, _⟩ => ⟨S32x8732, .i1⟩
  | .hbm, ⟨71, _⟩ => ⟨S32x8732, .f32⟩
  | .hbm, ⟨72, _⟩ => ⟨S_, .f32⟩
  | .hbm, ⟨73, _⟩ => ⟨S_, .f32⟩
  | .hbm, ⟨74, _⟩ => ⟨S32x8732x4, .f32⟩
  | .hbm, ⟨75, _⟩ => ⟨S32x8732x4, .f32⟩
  | .hbm, ⟨76, _⟩ => ⟨S_, .f32⟩
  | .hbm, ⟨77, _⟩ => ⟨S32x8732x4, .f32⟩
  | .hbm, ⟨78, _⟩ => ⟨S32x8732x4, .i1⟩
  | .hbm, ⟨79, _⟩ => ⟨S_, .f32⟩
  | .hbm, ⟨80, _⟩ => ⟨S32x8732x4, .f32⟩
  | .hbm, ⟨81, _⟩ => ⟨S32x8732x4, .f32⟩
  | .hbm, ⟨82, _⟩ => ⟨S32x8732x4, .f32⟩
  | .hbm, ⟨83, _⟩ => ⟨S_, .f32⟩
  | .hbm, ⟨84, _⟩ => ⟨S32x8732x4, .f32⟩
  | .hbm, ⟨85, _⟩ => ⟨S32x8732x4, .f32⟩
  | .hbm, ⟨86, _⟩ => ⟨S32x8732x4, .f32⟩
  | .hbm, ⟨87, _⟩ => ⟨S32x8732x1, .i1⟩
  | .hbm, ⟨88, _⟩ => ⟨S32x8732x1, .f32⟩
  | .hbm, ⟨89, _⟩ => ⟨S32x8732x4, .f32⟩
  | .hbm, ⟨90, _⟩ => ⟨S32x8732x4, .f32⟩
  | .hbm, ⟨91, _⟩ => ⟨S_, .f32⟩
  | .hbm, ⟨92, _⟩ => ⟨S_, .f32⟩
  | .hbm, ⟨93, _⟩ => ⟨S32x8732, .i1⟩
  | .hbm, ⟨94, _⟩ => ⟨S_, .f32⟩
  | .hbm, ⟨95, _⟩ => ⟨S_, .f32⟩
  | .hbm, ⟨96, _⟩ => ⟨S32x8732, .f32⟩
  | .hbm, ⟨97, _⟩ => ⟨S32x8732, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S32x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_c_2 : Ref sig .tc := ⟨.hbm, 44, rfl⟩
abbrev main_v10 : Ref sig .tc := ⟨.hbm, 45, rfl⟩
abbrev main_v11 : Ref sig .tc := ⟨.hbm, 46, rfl⟩
abbrev main_cst_3 : Ref sig .tc := ⟨.hbm, 47, rfl⟩
abbrev main_call2_v0 : Ref sig .tc := ⟨.hbm, 48, rfl⟩
abbrev main_call2_v1 : Ref sig .tc := ⟨.hbm, 49, rfl⟩
abbrev main_v12 : Ref sig .tc := ⟨.hbm, 50, rfl⟩
abbrev main_v13 : Ref sig .tc := ⟨.hbm, 51, rfl⟩
abbrev main_cst_4 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_call3_v0 : Ref sig .tc := ⟨.hbm, 56, rfl⟩
abbrev main_call3_v1_0 : Ref sig .tc := ⟨.hbm, 57, rfl⟩
abbrev main_v17 : Ref sig .tc := ⟨.hbm, 58, rfl⟩
abbrev main_call4_v0 : Ref sig .tc := ⟨.hbm, 59, rfl⟩
abbrev main_call4_v1_0 : Ref sig .tc := ⟨.hbm, 60, rfl⟩
abbrev main_v18 : Ref sig .tc := ⟨.hbm, 61, rfl⟩
abbrev main_v19 : Ref sig .tc := ⟨.hbm, 62, rfl⟩
abbrev main_c_5 : Ref sig .tc := ⟨.hbm, 63, rfl⟩
abbrev main_v20 : Ref sig .tc := ⟨.hbm, 64, rfl⟩
abbrev main_c_6 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_7 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_8 : Ref sig .tc := ⟨.hbm, 76, rfl⟩
abbrev main_v30 : Ref sig .tc := ⟨.hbm, 77, rfl⟩
abbrev main_v31 : Ref sig .tc := ⟨.hbm, 78, rfl⟩
abbrev main_cst_9 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_10 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_11 : Ref sig .tc := ⟨.hbm, 91, rfl⟩
abbrev main_v42 : Ref sig .tc := ⟨.hbm, 92, rfl⟩
abbrev main_v43 : Ref sig .tc := ⟨.hbm, 93, rfl⟩
abbrev main_cst_12 : Ref sig .tc := ⟨.hbm, 94, rfl⟩
abbrev main_call6_v0 : Ref sig .tc := ⟨.hbm, 95, rfl⟩
abbrev main_call6_v1 : Ref sig .tc := ⟨.hbm, 96, rfl⟩
abbrev main_v44 : Ref sig .tc := ⟨.hbm, 97, rfl⟩
abbrev main_cst_13 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩

abbrev nD : Nat := 1
abbrev τ : Topo := Topo.v7x

variable {F : FTy → Type} [FloatOps F]
-- ==== Proof.Body.lean ====
/- One grid point of the kernel. What the point adds to the three running sums is named (`topOf`, `stepOf`), the
   conditional around the counted loop is read as one pure value, and the body is run once per kind of point
   (first, middle, last), over any float values. -/
module

public import proofs.«01_k».proof.Proof.Gen.KernelIdeal.Frame
public import proofs.«01_k».proof.Proof.Gen.KernelIdeal.Skeleton
public import Idealize.ShloMosaic.Lib.CellWrites
public import Idealize.ShloMosaic.Lib.VecWindow
public import Idealize.ShloMosaic.Lib.WholeRead
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditional as one value -/

/-- The budget of a row as the kernel clips it: three times its positives, at most the row's length. -/
def budget (v20 : IVec S1x8732 32) : BitVec 32 :=
  Scalar.minsi (Scalar.muli 3#32 (Scalar.fptosi 32 (k0_pay10 (F := F) v20))) 8732#32

/-- One trip of the bit search: the next bit is kept when at least the budget's count reaches the candidate. -/
def trip (v20 : IVec S1x8732 32) (v30 v38 : FVec F S8732x1 .f32) (k : Fin k0_t1_loop.trips) (acc : BitVec 32) : BitVec 32 :=
  Scalar.select (Scalar.cmpi .sge (extractAt ![0, 0, 0] (k0_pay14 v20 v30 v38 k acc) inpos_S1x1x1_p0_0_0) (budget (F := F) v20))
    (Scalar.ori acc (Scalar.shli 1#32 (Scalar.subi 30#32 (Scf.iv 0#32 1#32 k)))) acc

/-- What the search ends with. -/
def searched (v20 : IVec S1x8732 32) (v30 v38 : FVec F S8732x1 .f32) : BitVec 32 :=
  Scf.fold (trip v20 v30 v38) 0#32

/-- The condition of the branch, as printed. -/
def full (v20 : IVec S1x8732 32) : BitVec 1 :=
  Scalar.cmpi .ne (Scalar.extui (Scalar.cmpi .sge (budget (F := F) v20) 8732#32)) 0#32

/-- What the conditional returns: the sum over the whole row, or the searched top sum. -/
def topOf (v20 : IVec S1x8732 32) (v30 v38 : FVec F S8732x1 .f32) : F .f32 :=
  if full (F := F) v20 = 1#1 then k0_pay13 v20 v30 v38 else k0_pay15 v20 v30 v38 (searched v20 v30 v38)

/-- The first of the four rows of the localisation block that belong to the batch element. -/
def firstRow (arg0 : BitVec 32) : BitVec 32 :=
  let v68 : BitVec 1 := Scalar.cmpi .eq 2#32 0#32
  let v69 : BitVec 32 := Scalar.select v68 1#32 2#32
  let v70 : BitVec 32 := Scalar.remsi arg0 v69
  let v71 : BitVec 1 := Scalar.cmpi .ne v70 0#32
  let v72 : BitVec 1 := Scalar.cmpi .slt v70 0#32
  let v73 : BitVec 1 := Scalar.cmpi .slt v69 0#32
  let v74 : BitVec 1 := Scalar.xori v72 v73
  let v75 : BitVec 1 := Scalar.andi v74 v71
  let v76 : BitVec 32 := Scalar.addi v70 v69
  let v77 : BitVec 32 := Scalar.select v75 v76 v70
  Scalar.muli 4#32 v77

/-- The middle part of the body with the conditional replaced by its value. -/
def part2 (i : grid0.Coords) (arg1 : Memref sig .tc .vmem S1x8732x81 .f32) (harg1 : arg1.IsWhole) (arg2 : Memref sig .tc .vmem S8x8732 .i32) (harg2 : arg2.IsWhole) (arg3 : Memref sig .tc .vmem S8x8732 .f32) (harg3 : arg3.IsWhole) (arg4 : Memref sig .tc .vmem S8x8732 .f32) (harg4 : arg4.IsWhole) (arg5 : Memref sig .tc .vmem S1x1 .f32) (harg5 : arg5.IsWhole) (arg6 : Memref sig .tc .smem S4 .f32) (harg6 : arg6.IsWhole) (arg0 : BitVec 32) (v20 : IVec S1x8732 32) (v30 : FVec F S8732x1 .f32) (v38 : FVec F S8732x1 .f32) :
    Prog (TpuEff nD τ sig (Elt F) Λ₀ .tc) (Σ' (v45 : FVec F S1x8732 .f32) (v49 : F .f32) (v57 : F .f32) (v67 : F .f32) (v78 : BitVec 32), FVec F S8x8732 .f32) := do
  let v79 : Vec F S8x8732 .f32 ← Prog.lift (.load arg3 (Rect.unit (s := S8x8732) ![0, 0] S8x8732.size inb_S8x8732_S8x8732_0_0).toLoadRect (View.loadsAt_vmem h_S8x8732))
  pure ⟨k0_pay9 (F := F) v20, k0_pay10 (F := F) v20, k0_pay11 v20 v30 v38, topOf v20 v30 v38, firstRow arg0, k0_pay16 v79⟩

theorem part2_eq : k0_part2 (F := F) = part2 (F := F) := by
  rw [k0_part2_eq_skeleton]
  funext i arg1 harg1 arg2 harg2 arg3 harg3 arg4 harg4 arg5 harg5 arg6 harg6 arg0 v20 v30 v38
  unfold k0_part2_skel part2
  have hfor : (Scf.Loop.for k0_t1_loop k0_t1_ok 0#32 (k0_t1_body (F := F) i arg1 harg1 arg2 harg2 arg3 harg3 arg4 harg4 arg5 harg5 arg6 harg6 arg0 v20 v30 v38 (budget (F := F) v20)))
      = .ret (searched v20 v30 v38) :=
    Scf.for_pure _ _ _ _ _ _ (trip v20 v30 v38) (fun _ _ => rfl)
  by_cases hb : full (F := F) v20 = 1#1
  · have e1 : topOf v20 v30 v38 = k0_pay13 v20 v30 v38 := if_pos hb
    rw [e1]
    exact (if_pos hb).trans rfl
  · have e1 : topOf v20 v30 v38 = k0_pay15 v20 v30 v38 (searched v20 v30 v38) := if_neg hb
    rw [e1]
    refine (if_neg hb).trans ?_
    refine (congrArg (fun p : Prog (TpuEff nD τ sig (Elt F) Λ₀ .tc) (BitVec 32) => p >>= _) hfor).trans ?_
    rfl

/-! ## What a point adds -/

/-- The three running sums. -/
structure Sums (F : FTy → Type) where
  cls : F .f32
  loc : F .f32
  num : F .f32

/-- The sums before the first point. -/
def Sums.zero : Sums F := ⟨Scalar.ofBits .f32 0#32, Scalar.ofBits .f32 0#32, Scalar.ofBits .f32 0#32⟩

/-- The sums after a point, from the point's four blocks and the sums before it. -/
def stepOf (i : grid0.Coords) (x0 : Vec F S1x8732x81 .f32) (x1 : Vec F S8x8732 .i32) (x2 x3 : Vec F S8x8732 .f32) (a : Sums F) : Sums F where
  cls := k0_pay17 (k0_pay11 (k0_pay2 i x1) (k0_pay5 x0) (k0_pay6 i x1 x0)) (topOf (k0_pay2 i x1) (k0_pay5 x0) (k0_pay6 i x1 x0)) a.cls
  loc := k0_pay18 (iota .tc S8x8732 32 [0] iota_S8x8732_d0_w32) (k0_pay9 (F := F) (k0_pay2 i x1)) (firstRow (BitVec.ofNat 32 (i 0).val)) (k0_pay16 x2) x3 a.loc
  num := k0_pay19 (k0_pay10 (F := F) (k0_pay2 i x1)) a.num

/-- Cell `k` of the scratch array. -/
def cell (k : Fin 4) : S4.Idx := fun a => match a with | ⟨0, _⟩ => k

/-- The scratch array's first three cells hold the sums. -/
def Holds (d : Vec F S4 .f32) (a : Sums F) : Prop :=
  d (cell 0) = a.cls ∧ d (cell 1) = a.loc ∧ d (cell 2) = a.num

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond3 i = 1#1

/-- What the last point writes to the output: the two loss sums over the count. -/
def outOf (a : Sums F) : Vec F S1x1 .f32 := k0_pay1 a.cls a.loc a.num

/-- A cell of the scratch array read where it is stored, over contents known whole. -/
theorem cell_read {m : Memref sig .tc .smem S4 .f32} (hm : m.IsWhole) (xs : Vec F S4 .f32) (k : Fin 4)
    (inb : ∀ a, (![k.val] : Fin 1 → ℕ) a + S1.size a ≤ S4.size a) (x : S1.Idx) :
    View.readAt (Elt F) m.view (Rect.unit (s := S4) ![k.val] S1.size inb).toLoadRect (hm.unread xs) x = xs (cell k) := by
  rw [hm.readAt_unread]
  congr 1
  funext a
  match a with
  | ⟨0, _⟩ =>
    have hx : (x 0).val = 0 := by have := (x 0).isLt; change (x 0).val < 1 at this; omega
    refine Fin.ext ?_
    change k.val + 1 * (x 0).val = k.val
    omega

/-- What cell `k` holds after the three sums have been stored, newest first, whatever was stored before. -/
theorem holds_of_writes (v : View sig .tc .smem S4 .f32) (f : v.ty.Contents (Elt F)) (L : List (View.Piece (Elt F) S4 .f32)) (p0 p1 p2 : F .f32) (a : Sums F)
    (h0 : p0 = a.cls) (h1 : p1 = a.loc) (h2 : p2 = a.num) :
    Holds (v.read (Elt F) (v.writes (Elt F) f
      (⟨Rect.unit ![2] S1.size inb_S4_S1_2, fun _ => p2⟩ :: ⟨Rect.unit ![1] S1.size inb_S4_S1_1, fun _ => p1⟩ :: ⟨Rect.unit ![0] S1.size inb_S4_S1_0, fun _ => p0⟩ :: L))) a := by
  refine ⟨?_, ?_, ?_⟩
  · refine (View.read_writes_cons_cell (Val := Elt F) v f inb_S4_S1_2 p2 _ (cell 0)).trans ((if_neg (by decide)).trans ?_)
    refine (View.read_writes_cons_cell (Val := Elt F) v f inb_S4_S1_1 p1 _ (cell 0)).trans ((if_neg (by decide)).trans ?_)
    exact (View.read_writes_cons_cell (Val := Elt F) v f inb_S4_S1_0 p0 _ (cell 0)).trans ((if_pos (by decide)).trans h0)
  · refine (View.read_writes_cons_cell (Val := Elt F) v f inb_S4_S1_2 p2 _ (cell 1)).trans ((if_neg (by decide)).trans ?_)
    exact (View.read_writes_cons_cell (Val := Elt F) v f inb_S4_S1_1 p1 _ (cell 1)).trans ((if_pos (by decide)).trans h1)
  · exact (View.read_writes_cons_cell (Val := Elt F) v f inb_S4_S1_2 p2 _ (cell 2)).trans ((if_pos (by decide)).trans h2)

set_option maxHeartbeats 1000000 in
theorem run_mid (c : Dev nD) (i : grid0.Coords) (arg1 : Memref sig .tc .vmem S1x8732x81 .f32) (harg1 : arg1.IsWhole) (arg2 : Memref sig .tc .vmem S8x8732 .i32) (harg2 : arg2.IsWhole) (arg3 : Memref sig .tc .vmem S8x8732 .f32) (harg3 : arg3.IsWhole) (arg4 : Memref sig .tc .vmem S8x8732 .f32) (harg4 : arg4.IsWhole) (arg5 : Memref sig .tc .vmem S1x1 .f32) (harg5 : arg5.IsWhole) (arg6 : Memref sig .tc .smem S4 .f32) (harg6 : arg6.IsWhole) (hc0 : ¬cond0_0 i) (hc1 : ¬cond0_1 i)
    (x0 : Vec F S1x8732x81 .f32) (x1 : Vec F S8x8732 .i32) (x2 : Vec F S8x8732 .f32) (x3 : Vec F S8x8732 .f32) (xs0 : Vec F S4 .f32) (a : Sums F) (ha : Holds xs0 a)
    (xo : Vec F S1x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ d, owns (c : Thread nD τ) arg6 fullShare d ∗ ⌜Holds d (stepOf i x0 x1 x2 x3 a)⌝)) -∗ K ⟨⟩))
          ⊢ wp frame (wpE (defs₀ (F := F)) Variants.none c none) E (cc0__fused_body i arg1 harg1 arg2 harg2 arg3 harg3 arg4 harg4 arg5 harg5 arg6 harg6) K := by
    simp only [cc0__fused_body_eq_skeleton]; unfold cc0__fused_body_skel
    simp only [k0_part1_eq_skeleton, part2_eq, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1)
    sl_step
    have e1 : View.readAt (Elt F) arg1.view (Rect.unit (s := S1x8732x81) ![0, 0, 0] S1x8732x81.size inb_S1x8732x81_S1x8732x81_0_0_0).toLoadRect (harg1.unread x0) = x0 :=
      (View.readAt_full _ _ _).trans (harg1.read_unread _)
    have e2 : View.readAt (Elt F) arg2.view (Rect.unit (s := S8x8732) ![0, 0] S8x8732.size inb_S8x8732_S8x8732_0_0).toLoadRect (harg2.unread x1) = x1 :=
      (View.readAt_full _ _ _).trans (harg2.read_unread _)
    have e3 : View.readAt (Elt F) arg3.view (Rect.unit (s := S8x8732) ![0, 0] S8x8732.size inb_S8x8732_S8x8732_0_0).toLoadRect (harg3.unread x2) = x2 :=
      (View.readAt_full _ _ _).trans (harg3.read_unread _)
    have e4 : View.readAt (Elt F) arg4.view (Rect.unit (s := S8x8732) ![0, 0] S8x8732.size inb_S8x8732_S8x8732_0_0).toLoadRect (harg4.unread x3) = x3 :=
      (View.readAt_full _ _ _).trans (harg4.read_unread _)
    have c0 : ∀ x, View.readAt (Elt F) arg6.view (Rect.unit (s := S4) ![0] S1.size inb_S4_S1_0).toLoadRect (harg6.unread xs0) x = a.cls :=
      fun x => (cell_read harg6 xs0 0 inb_S4_S1_0 x).trans ha.1
    have c1 : ∀ x, View.readAt (Elt F) arg6.view (Rect.unit (s := S4) ![1] S1.size inb_S4_S1_1).toLoadRect (harg6.unread xs0) x = a.loc :=
      fun x => (cell_read harg6 xs0 1 inb_S4_S1_1 x).trans ha.2.1
    have c2 : ∀ x, View.readAt (Elt F) arg6.view (Rect.unit (s := S4) ![2] S1.size inb_S4_S1_2).toLoadRect (harg6.unread xs0) x = a.num :=
      fun x => (cell_read harg6 xs0 2 inb_S4_S1_2 x).trans ha.2.2
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact hf4
      iexact H4
    iexists _; isplitl [HS0]
    · iexists _; isplitr
      swap; · iexact HS0
      ipureintro; rfl
    ipureintro
    sl_unfold_run_names
    rw [e1, e2, e3, e4]
    rw [c0, c1, c2]
    exact holds_of_writes _ _ [] _ _ _ (stepOf i x0 x1 x2 x3 a) rfl rfl rfl

set_option maxHeartbeats 1000000 in
theorem run_first (c : Dev nD) (i : grid0.Coords) (arg1 : Memref sig .tc .vmem S1x8732x81 .f32) (harg1 : arg1.IsWhole) (arg2 : Memref sig .tc .vmem S8x8732 .i32) (harg2 : arg2.IsWhole) (arg3 : Memref sig .tc .vmem S8x8732 .f32) (harg3 : arg3.IsWhole) (arg4 : Memref sig .tc .vmem S8x8732 .f32) (harg4 : arg4.IsWhole) (arg5 : Memref sig .tc .vmem S1x1 .f32) (harg5 : arg5.IsWhole) (arg6 : Memref sig .tc .smem S4 .f32) (harg6 : arg6.IsWhole) (hc0 : cond0_0 i) (hc1 : ¬cond0_1 i)
    (x0 : Vec F S1x8732x81 .f32) (x1 : Vec F S8x8732 .i32) (x2 : Vec F S8x8732 .f32) (x3 : Vec F S8x8732 .f32) (xs0 : Vec F S4 .f32)
    (xo : Vec F S1x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ (∃ d, owns (c : Thread nD τ) arg6 fullShare d ∗ ⌜Holds d (stepOf i x0 x1 x2 x3 Sums.zero)⌝)) -∗ K ⟨⟩))
          ⊢ wp frame (wpE (defs₀ (F := F)) Variants.none c none) E (cc0__fused_body i arg1 harg1 arg2 harg2 arg3 harg3 arg4 harg4 arg5 harg5 arg6 harg6) K := by
    simp only [cc0__fused_body_eq_skeleton]; unfold cc0__fused_body_skel
    simp only [k0_part1_eq_skeleton, part2_eq, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1)
    sl_step
    have e1 : View.readAt (Elt F) arg1.view (Rect.unit (s := S1x8732x81) ![0, 0, 0] S1x8732x81.size inb_S1x8732x81_S1x8732x81_0_0_0).toLoadRect (harg1.unread x0) = x0 :=
      (View.readAt_full _ _ _).trans (harg1.read_unread _)
    have e2 : View.readAt (Elt F) arg2.view (Rect.unit (s := S8x8732) ![0, 0] S8x8732.size inb_S8x8732_S8x8732_0_0).toLoadRect (harg2.unread x1) = x1 :=
      (View.readAt_full _ _ _).trans (harg2.read_unread _)
    have e3 : View.readAt (Elt F) arg3.view (Rect.unit (s := S8x8732) ![0, 0] S8x8732.size inb_S8x8732_S8x8732_0_0).toLoadRect (harg3.unread x2) = x2 :=
      (View.readAt_full _ _ _).trans (harg3.read_unread _)
    have e4 : View.readAt (Elt F) arg4.view (Rect.unit (s := S8x8732) ![0, 0] S8x8732.size inb_S8x8732_S8x8732_0_0).toLoadRect (harg4.unread x3) = x3 :=
      (View.readAt_full _ _ _).trans (harg4.read_unread _)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact hf4
      iexact H4
    iexists _; isplitl [HS0]
    · iexists _; isplitr
      swap; · iexact HS0
      ipureintro; rfl
    ipureintro
    sl_unfold_run_names
    rw [e1, e2, e3, e4]
    exact holds_of_writes _ _ _ _ _ _ (stepOf i x0 x1 x2 x3 Sums.zero) rfl rfl rfl

set_option maxHeartbeats 1000000 in
theorem run_last (c : Dev nD) (i : grid0.Coords) (arg1 : Memref sig .tc .vmem S1x8732x81 .f32) (harg1 : arg1.IsWhole) (arg2 : Memref sig .tc .vmem S8x8732 .i32) (harg2 : arg2.IsWhole) (arg3 : Memref sig .tc .vmem S8x8732 .f32) (harg3 : arg3.IsWhole) (arg4 : Memref sig .tc .vmem S8x8732 .f32) (harg4 : arg4.IsWhole) (arg5 : Memref sig .tc .vmem S1x1 .f32) (harg5 : arg5.IsWhole) (arg6 : Memref sig .tc .smem S4 .f32) (harg6 : arg6.IsWhole) (hc0 : ¬cond0_0 i) (hc1 : cond0_1 i)
    (x0 : Vec F S1x8732x81 .f32) (x1 : Vec F S8x8732 .i32) (x2 : Vec F S8x8732 .f32) (x3 : Vec F S8x8732 .f32) (xs0 : Vec F S4 .f32) (a : Sums F) (ha : Holds xs0 a)
    (xo : Vec F S1x1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outOf (stepOf i x0 x1 x2 x3 a)) ∗ (∃ d, owns (c : Thread nD τ) arg6 fullShare d ∗ ⌜Holds d (stepOf i x0 x1 x2 x3 a)⌝)) -∗ K ⟨⟩))
          ⊢ wp frame (wpE (defs₀ (F := F)) Variants.none c none) E (cc0__fused_body i arg1 harg1 arg2 harg2 arg3 harg3 arg4 harg4 arg5 harg5 arg6 harg6) K := by
    simp only [cc0__fused_body_eq_skeleton]; unfold cc0__fused_body_skel
    simp only [k0_part1_eq_skeleton, part2_eq, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0 | sl_exact hc1)
    sl_step
    have e1 : View.readAt (Elt F) arg1.view (Rect.unit (s := S1x8732x81) ![0, 0, 0] S1x8732x81.size inb_S1x8732x81_S1x8732x81_0_0_0).toLoadRect (harg1.unread x0) = x0 :=
      (View.readAt_full _ _ _).trans (harg1.read_unread _)
    have e2 : View.readAt (Elt F) arg2.view (Rect.unit (s := S8x8732) ![0, 0] S8x8732.size inb_S8x8732_S8x8732_0_0).toLoadRect (harg2.unread x1) = x1 :=
      (View.readAt_full _ _ _).trans (harg2.read_unread _)
    have e3 : View.readAt (Elt F) arg3.view (Rect.unit (s := S8x8732) ![0, 0] S8x8732.size inb_S8x8732_S8x8732_0_0).toLoadRect (harg3.unread x2) = x2 :=
      (View.readAt_full _ _ _).trans (harg3.read_unread _)
    have e4 : View.readAt (Elt F) arg4.view (Rect.unit (s := S8x8732) ![0, 0] S8x8732.size inb_S8x8732_S8x8732_0_0).toLoadRect (harg4.unread x3) = x3 :=
      (View.readAt_full _ _ _).trans (harg4.read_unread _)
    have c0 : ∀ x, View.readAt (Elt F) arg6.view (Rect.unit (s := S4) ![0] S1.size inb_S4_S1_0).toLoadRect (harg6.unread xs0) x = a.cls :=
      fun x => (cell_read harg6 xs0 0 inb_S4_S1_0 x).trans ha.1
    have c1 : ∀ x, View.readAt (Elt F) arg6.view (Rect.unit (s := S4) ![1] S1.size inb_S4_S1_1).toLoadRect (harg6.unread xs0) x = a.loc :=
      fun x => (cell_read harg6 xs0 1 inb_S4_S1_1 x).trans ha.2.1
    have c2 : ∀ x, View.readAt (Elt F) arg6.view (Rect.unit (s := S4) ![2] S1.size inb_S4_S1_2).toLoadRect (harg6.unread xs0) x = a.num :=
      fun x => (cell_read harg6 xs0 2 inb_S4_S1_2 x).trans ha.2.2
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap; · iexact H4
      ipureintro
      sl_unfold_run_names
      rw [e1, e2, e3, e4, c0, c1, c2]
      exact View.read_writes_full (Val := Elt F) _ _ inb_S1x1_S1x1_0_0 _ []
    iexists _; isplitl [HS0]
    · iexists _; isplitr
      swap; · iexact HS0
      ipureintro; rfl
    ipureintro
    sl_unfold_run_names
    rw [e1, e2, e3, e4]
    rw [c0, c1, c2]
    exact holds_of_writes _ _ [] _ _ _ (stepOf i x0 x1 x2 x3 a) rfl rfl rfl

end Cert.KernelIdeal.Hand

end
-- ==== Proof.Run.lean ====
/- The kernel's whole run over any float values: the three running sums carried through the grid (`sumsAt`), the body
   at every point, and the run of the program with the result array at the last point's output. -/
module

public import proofs.«01_k».proof.Proof.Body
public import Idealize.ShloMosaic.Adequacy
public import Idealize.ShloMosaic.Init
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch is taken at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The last branch is taken at the last point only. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond3, e0]
    word_cmp
   : ∀ t : Fin grid0.N, cond0_1 (grid0.coords t) ↔ t.val % 32 = 31)

/-! ## Where the output window is written -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The staging buffers and the scratch array -/

abbrev ms0_0 (t : Fin cfg0.N) : Memref sig .tc .vmem S1x8732x81 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x8732 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x8732 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x8732 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The scratch array the kernel carries from point to point. -/
abbrev scM0_0 : Memref sig .tc .smem S4 .f32 := Memref.whole cc0_scratch0

/-- What the launch hands the body besides the windows: the scratch array at anything and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The running sums -/

/-- The running sums after `n` points. -/
def sumsAt (c : Dev nD) : ℕ → Sums F
  | 0 => Sums.zero
  | n + 1 => if h : n < cfg0.N then
      stepOf (grid0.coords ⟨n, h⟩) (iblk m c 0 ⟨n, h⟩) (iblk m c 1 ⟨n, h⟩) (iblk m c 2 ⟨n, h⟩) (iblk m c 3 ⟨n, h⟩) (sumsAt c n)
    else sumsAt c n

theorem sumsAt_succ (c : Dev nD) (t : Fin cfg0.N) :
    sumsAt m c (t.val + 1) = stepOf (grid0.coords t) (iblk m c 0 t) (iblk m c 1 t) (iblk m c 2 t) (iblk m c 3 t) (sumsAt m c t.val) :=
  dif_pos t.isLt

/-- What is held before position `n`: from the second point on the scratch array's first three cells hold the sums. -/
def PhiS (c : Dev nD) : ℕ → sProp 𝕄
  | 0 => Pipeline.ΦA spec0 c
  | n + 1 => iprop((∃ d, owns (c : Thread nD τ) scM0_0 fullShare d ∗ ⌜Holds d (sumsAt m c (n + 1))⌝) ∗ (∃ r, prngReg c r))

theorem PhiS_pos (c : Dev nD) (n : ℕ) (hz : n ≠ 0) :
    PhiS m c n = iprop((∃ d, owns (c : Thread nD τ) scM0_0 fullShare d ∗ ⌜Holds d (sumsAt m c n)⌝) ∗ (∃ r, prngReg c r)) := by
  cases n with
  | zero => exact absurd rfl hz
  | succ n => rfl

/-- The proof data: every input's buffer keeps its block, the output's holds the quotient of the sums, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (sumsAt m c (t.val + 1))
  Φ t := PhiS m c t.val
  q _ := fullShare
  owed _ := 0

/-- The arrays the data speak of are the ones the region finds. -/
theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outOf (sumsAt m c (t.val + 1)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point, by the three kinds of point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases hz : t.val = 0
  · have h0 : t.val % 32 = 0 := by omega
    have h1 : ¬t.val % 32 = 31 := by omega
    have e0 : sumsAt m c t.val = Sums.zero := by rw [hz]; rfl
    rw [Phi_castSucc m c t, show PhiS m c t.val = Pipeline.ΦA spec0 c from by rw [hz]; rfl, PhiA0_eq]
    rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
    rw [sumsAt_succ m c t, e0]
    iintro ⟨⟨⟨%d, HS0⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ ((hcond0_0 t).mpr h0) (fun h => h1 ((hcond0_1 t).mp h)) (iblk m c 0 t) (iblk m c 1 t) (iblk m c 2 t) (iblk m c 3 t) d _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    iexists _; iexact H4
  · have h0 : ¬t.val % 32 = 0 := by omega
    by_cases h1 : t.val % 32 = 31
    · rw [Phi_castSucc m c t, PhiS_pos m c _ hz]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [sumsAt_succ m c t]
      iintro ⟨⟨⟨%d, HS0, %hd⟩, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ (fun h => h0 ((hcond0_0 t).mp h)) ((hcond0_1 t).mpr h1) (iblk m c 0 t) (iblk m c 1 t) (iblk m c 2 t) (iblk m c 3 t) d _ hd _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexact H4
    · rw [Phi_castSucc m c t, PhiS_pos m c _ hz]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [sumsAt_succ m c t]
      iintro ⟨⟨⟨%d, HS0, %hd⟩, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) d _ hd _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      iexists _; iexact H4

/-- The table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what is held before the first point. -/
theorem hin (c : Dev nD) : Pipeline.ΦA spec0 c ⊢ (dats m 0 c).Φ 0 := by
  rw [show (dats m 0 c).Φ 0 = Pipeline.ΦA spec0 c from rfl]

/-- After the last point the sums are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 32 := N_0; omega), PhiA0_eq]
  iintro ⟨⟨%d, HS0, %hd⟩, Hg⟩
  isplitl [HS0]
  · iexists _; iexact HS0
  iexact Hg

/-! ## The run and the frame -/

set_option backward.isDefEq.respectTransparency.types false in
set_option maxHeartbeats 800000 in
/-- The launch: every array at what the points leave, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.FrameK.lean ====
module

public import proofs.«01_k».proof.Defs
public import proofs.«01_k».proof.Proof.Gen.Kernel
public import proofs.«01_k».proof.Proof.Run

@[expose] public section
noncomputable section
namespace Cert.Proof
open Idealize.ShloMosaic Idealize.SL.Sem
set_option maxHeartbeats 4000000

/-- The two printings of the first window of the kernel's statements are one text. -/
theorem part1_same : (@Cert.Kernel.k0_part1 Bits _ _) = @Cert.KernelIdeal.k0_part1 Bits _ _ := rfl
/-- The two printings of the second window are one text. -/
theorem part2_same : (@Cert.Kernel.k0_part2 Bits _ _) = @Cert.KernelIdeal.k0_part2 Bits _ _ := rfl
/-- The two printings of the third window are one text. -/
theorem part3_same : (@Cert.Kernel.k0_part3 Bits _ _) = @Cert.KernelIdeal.k0_part3 Bits _ _ := rfl

/-- The two printings of the kernel function are one text, window by window. -/
theorem body_same : (@Cert.Kernel.cc0__fused_body Bits _ _) = @Cert.KernelIdeal.cc0__fused_body Bits _ _ := by
  funext i a1 h1 a2 h2 a3 h3 a4 h4 a5 h5 a6 h6
  unfold Cert.Kernel.cc0__fused_body Cert.KernelIdeal.cc0__fused_body
  rw [part1_same, part2_same, part3_same]
  refine congrArg (Bind.bind _) (funext fun x => ?_)
  obtain ⟨x0, x1, x2, x3, x4⟩ := x
  refine congrArg (Bind.bind _) (funext fun y => ?_)
  obtain ⟨y0, y1, y2, y3, y4, y5⟩ := y
  rfl

/-- So are the tables of body labels. -/
theorem defs₀_same : (Cert.Kernel.defs₀ (F := Bits)) = Cert.KernelIdeal.defs₀ (F := Bits) := by
  unfold Cert.Kernel.defs₀ Cert.KernelIdeal.defs₀
  rw [body_same]
  refine congrArg Defs.onTc (funext fun l => funext fun x => ?_)
  match l, x with
  | 0, (t, s) => rfl

/-- So are the definitions the two programs run with. -/
theorem defs_same : (Cert.Kernel.defs (F := Bits)) = Cert.KernelIdeal.defs (F := Bits) := by
  unfold Cert.Kernel.defs Cert.KernelIdeal.defs
  rw [defs₀_same]; rfl

/-- The kernel at the machine's floats runs and ends quiescent: the run over any floats, read at these. -/
theorem frame_kernel : Cert.quiescent_Kernel := fun m ρ _ => by
  rw [defs_same]
  exact (θ_run Cert.KernelIdeal.defs _ _).mono (fun _ h => ⟨fun c => h.1 c, h.2⟩) (Cert.KernelIdeal.Hand.frame (F := Bits) m ρ)

end Cert.Proof
end
-- ==== Proof.Search.lean ====
module

public import Idealize.ShloMosaic.Lib.Pointwise
public import Mathlib.Tactic.Linarith
public import Mathlib.Tactic.IntervalCases
public import Mathlib.Algebra.BigOperators.Ring.Finset

/-! The bit search over the grid of nonnegative floats, as mathematics: no program is named here. -/

@[expose] public section
noncomputable section
namespace Cert.Search
open Idealize.ShloMosaic

/-- The word of positive infinity. -/
abbrev top : ℕ := 0x7F800000

/-- The distance from the number a word names to the next one up. -/
def gap (w : ℕ) : ℝ := (2 : ℝ) ^ ((max (w / 2 ^ 23) 1 : ℕ) - 150 : ℤ)

/-- The number that the word `w` of a nonnegative finite float names. -/
def grid (w : ℕ) : ℝ := ((if w / 2 ^ 23 = 0 then w % 2 ^ 23 else 2 ^ 23 + w % 2 ^ 23 : ℕ) : ℝ) * gap w

theorem gap_pos (w : ℕ) : 0 < gap w := by unfold gap; positivity

theorem grid_nonneg (w : ℕ) : 0 ≤ grid w := by
  unfold grid; have := (gap_pos w).le; positivity

theorem grid_zero : grid 0 = 0 := by simp [grid]

theorem grid_succ (w : ℕ) : grid (w + 1) = grid w + gap w := by
  have hd := Nat.div_add_mod w (2 ^ 23)
  have hm := Nat.mod_lt w (y := 2 ^ 23) (by norm_num)
  have hd' := Nat.div_add_mod (w + 1) (2 ^ 23)
  have hm' := Nat.mod_lt (w + 1) (y := 2 ^ 23) (by norm_num)
  unfold grid gap
  generalize he : w / 2 ^ 23 = e at *
  generalize hf : w % 2 ^ 23 = f at *
  generalize he' : (w + 1) / 2 ^ 23 = e' at *
  generalize hf' : (w + 1) % 2 ^ 23 = f' at *
  by_cases hc : f + 1 < 2 ^ 23
  · have h1 : e' = e := by omega
    have h2 : f' = f + 1 := by omega
    subst h1 h2
    split_ifs <;> push_cast <;> ring
  · have h1 : e' = e + 1 := by omega
    have h2 : f' = 0 := by omega
    have h3 : f = 2 ^ 23 - 1 := by omega
    subst h1 h2 h3
    by_cases h0 : e = 0
    · subst h0; norm_num
    · have hmx : max e 1 = e := by omega
      have hmx' : max (e + 1) 1 = e + 1 := by omega
      rw [if_neg h0, if_neg (by omega), hmx, hmx']
      have : ((2 : ℝ) ^ (((e + 1 : ℕ) : ℤ) - 150)) = 2 * (2 : ℝ) ^ ((e : ℤ) - 150) := by
        rw [show (((e + 1 : ℕ) : ℤ) - 150) = ((e : ℤ) - 150) + 1 by push_cast; ring, zpow_add_one₀ (by norm_num)]; ring
      rw [this]
      norm_num
      ring

theorem grid_mono : Monotone grid :=
  monotone_nat_of_le_succ fun w => by rw [grid_succ]; have := gap_pos w; linarith

/-- Neighbours on the grid are close: within a relative `2^-23`, or `2^-149` near zero. -/
theorem gap_le (w : ℕ) : gap w ≤ grid w * (2 : ℝ) ^ (-23 : ℤ) + (2 : ℝ) ^ (-149 : ℤ) := by
  by_cases h0 : w / 2 ^ 23 = 0
  · have : gap w = (2 : ℝ) ^ (-149 : ℤ) := by unfold gap; rw [h0]; norm_num
    have hg := grid_nonneg w
    have : 0 ≤ grid w * (2 : ℝ) ^ (-23 : ℤ) := by positivity
    linarith
  · have h1 : (2 : ℝ) ^ 23 * gap w ≤ grid w := by
      unfold grid; rw [if_neg h0]
      refine mul_le_mul_of_nonneg_right ?_ (gap_pos w).le
      push_cast; have : (0 : ℝ) ≤ ((w % 2 ^ 23 : ℕ) : ℝ) := Nat.cast_nonneg _
      push_cast at this; linarith
    have h2 : gap w = (2 : ℝ) ^ 23 * gap w * (2 : ℝ) ^ (-23 : ℤ) := by
      rw [zpow_neg]; norm_num; ring
    have h3 : (2 : ℝ) ^ 23 * gap w * (2 : ℝ) ^ (-23 : ℤ) ≤ grid w * (2 : ℝ) ^ (-23 : ℤ) :=
      mul_le_mul_of_nonneg_right h1 (by positivity)
    have : (0 : ℝ) ≤ (2 : ℝ) ^ (-149 : ℤ) := by positivity
    linarith

/-- The word's number at the ideal instance. -/
theorem ofBits_grid (w : ℕ) (hw : w < top) : Ideal.ofBits .f32 (BitVec.ofNat 32 w) = ((grid w : ℝ) : EReal) := by
  have hw' : w < 2 ^ 32 := by unfold top at hw; omega
  have e1 : ((BitVec.ofNat 32 w).extractLsb' 31 1 == 1#1) = false := by
    rw [beq_eq_false_iff_ne]; intro h
    have := congrArg BitVec.toNat h
    simp [BitVec.extractLsb'_toNat, Nat.shiftRight_eq_div_pow] at this
    unfold top at hw; omega
  have e2 : ((BitVec.ofNat 32 w).extractLsb' 23 8).toNat = w / 2 ^ 23 := by
    simp [BitVec.extractLsb'_toNat, Nat.shiftRight_eq_div_pow]
    unfold top at hw; omega
  have e3 : ((BitVec.ofNat 32 w).extractLsb' 0 23).toNat = w % 2 ^ 23 := by
    simp [BitVec.extractLsb'_toNat]
  show Ideal.ieee 8 23 (BitVec.ofNat 32 w) = _
  unfold Ideal.ieee
  simp only [e1, e2, e3, show 8 + 23 = 31 from rfl]
  rw [if_neg (by unfold top at hw; norm_num; omega)]
  unfold grid gap
  by_cases h0 : w / 2 ^ 23 = 0
  · rw [if_pos h0, if_pos h0, h0]; norm_num
  · rw [if_neg h0, if_neg h0]
    have : max (w / 2 ^ 23) 1 = w / 2 ^ 23 := by omega
    rw [this]
    have h5 : ((w / 2 ^ 23 : ℕ) : ℤ) - (2 ^ (8 - 1) - 1) - (23 : ℕ) = ((w / 2 ^ 23 : ℕ) : ℤ) - 150 := by norm_num; ring
    rw [h5]
    norm_num

theorem ofBits_top : Ideal.ofBits .f32 (BitVec.ofNat 32 top) = (⊤ : EReal) := by
  show Ideal.ieee 8 23 (BitVec.ofNat 32 top) = _
  unfold Ideal.ieee
  simp [top]

/-- Bit by bit from the highest: keep each bit with which `P` still holds. -/
def search (P : ℕ → Prop) [DecidablePred P] : ℕ → ℕ
  | 0 => 0
  | i + 1 => if P (search P i + 2 ^ (30 - i)) then search P i + 2 ^ (30 - i) else search P i

theorem search_inv (P : ℕ → Prop) [DecidablePred P] (hN : ¬ P top) (h0 : P 0) (i : ℕ) (hi : i ≤ 31) :
    2 ^ (31 - i) ∣ search P i ∧ P (search P i) ∧ search P i < top ∧
      ∃ u, u ≤ top ∧ u ≤ search P i + 2 ^ (31 - i) ∧ ¬ P u := by
  induction i with
  | zero => exact ⟨by simp [search], h0, by simp [search], top, le_rfl, by simp [search, top], hN⟩
  | succ i ih =>
    obtain ⟨hd, hp, hlt, u, hu1, hu2, hu3⟩ := ih (by omega)
    have hc : search P i + 2 ^ (30 - i) ≤ top := by
      obtain ⟨q, hq⟩ := hd
      rw [hq] at hlt ⊢
      clear hq hu2 hp
      have hi' : i < 31 := by omega
      unfold top at hlt ⊢
      interval_cases i <;> norm_num at hlt ⊢ <;> omega
    have hpow : 2 ^ (31 - i) = 2 * 2 ^ (30 - i) := by
      rw [show 31 - i = (30 - i) + 1 by omega, pow_succ]; ring
    have hpow' : 31 - (i + 1) = 30 - i := by omega
    have hd' : 2 ^ (30 - i) ∣ search P i := Dvd.dvd.trans ⟨2, by rw [hpow]; ring⟩ hd
    rw [hpow']
    unfold search
    by_cases hP : P (search P i + 2 ^ (30 - i))
    · rw [if_pos hP]
      refine ⟨(Nat.dvd_add_right hd').mpr dvd_rfl, hP, lt_of_le_of_ne hc fun h => hN (h ▸ hP), u, hu1, by omega, hu3⟩
    · rw [if_neg hP]
      exact ⟨hd', hp, hlt, _, hc, le_rfl, hP⟩

/-- Where the search ends: the last word at which an antitone `P` holds. -/
theorem search_end (P : ℕ → Prop) [DecidablePred P] (hN : ¬ P top) (h0 : P 0)
    (hanti : ∀ a b, a ≤ b → b ≤ top → P b → P a) :
    P (search P 31) ∧ search P 31 < top ∧ ¬ P (search P 31 + 1) := by
  obtain ⟨-, hp, hlt, u, hu1, hu2, hu3⟩ := search_inv P hN h0 31 le_rfl
  refine ⟨hp, hlt, ?_⟩
  have : u = search P 31 + 1 := by
    by_contra hne
    have h2 : (2 : ℕ) ^ (31 - 31) = 1 := by norm_num
    rw [h2] at hu2
    exact hu3 (hanti u (search P 31) (by omega) (by omega) hp)
  rwa [← this]

theorem search_congr (P Q : ℕ → Prop) [DecidablePred P] [DecidablePred Q] (h : ∀ a, P a ↔ Q a) (i : ℕ) :
    search P i = search Q i := by
  induction i with
  | zero => rfl
  | succ i ih => simp only [search, ih, h]

/-- The largest finite float. -/
def maxFloat : ℝ := grid (top - 1)

/-- What the searched threshold gives is the sum over any set of the largest values that is set apart. -/
theorem top_sum {A : ℕ} (v : Fin A → ℝ) (hv : ∀ a, 0 ≤ v a) (S : Finset (Fin A)) (hS : S.Nonempty)
    (hord : ∀ a ∈ S, ∀ b ∉ S, v b ≤ v a)
    (hsep : (∃ s ∈ S, v s = 0) ∨ ∃ s ∈ S, (∀ a ∈ S, v s ≤ v a) ∧ v s ≤ maxFloat ∧
      ∀ b ∉ S, v b + (v s * (2 : ℝ) ^ (-23 : ℤ) + (2 : ℝ) ^ (-126 : ℤ)) ≤ v s)
    (w : ℕ) (hw : w < top) (hP : S.card ≤ (Finset.univ.filter fun a => grid w ≤ v a).card)
    (hQ : w + 1 < top → (Finset.univ.filter fun a => grid (w + 1) ≤ v a).card < S.card) :
    (∑ a ∈ Finset.univ.filter (fun a => grid w < v a), v a)
      + grid w * ((S.card : ℝ) - ((Finset.univ.filter fun a => grid w < v a).card : ℝ)) = ∑ a ∈ S, v a := by
  classical
  rcases hsep with ⟨s, hs, hs0⟩ | ⟨s, hs, hmin, hmax, hgap⟩
  · have hz : ∀ b ∉ S, v b = 0 := fun b hb => le_antisymm (hs0 ▸ hord s hs b hb) (hv b)
    have hg : grid w = 0 := by
      by_contra hne
      have hpos : 0 < grid w := lt_of_le_of_ne (grid_nonneg w) (Ne.symm hne)
      have : (Finset.univ.filter fun a => grid w ≤ v a) ⊆ S.erase s := by
        intro a ha
        rw [Finset.mem_filter] at ha
        rw [Finset.mem_erase]
        refine ⟨fun h => by rw [h, hs0] at ha; linarith [ha.2], ?_⟩
        by_contra hb
        have := hz a hb
        linarith [ha.2]
      have h1 := Finset.card_le_card this
      rw [Finset.card_erase_of_mem hs] at h1
      have := Finset.card_pos.mpr hS
      omega
    rw [hg, zero_mul, add_zero]
    refine Finset.sum_subset_zero_on_sdiff ?_ ?_ fun _ _ => rfl
    · intro a ha
      rw [Finset.mem_filter] at ha
      by_contra hb
      exact absurd (hz a hb) (by linarith [ha.2])
    · intro a ha
      rw [Finset.mem_sdiff, Finset.mem_filter] at ha
      have := ha.2
      simp only [Finset.mem_univ, true_and, not_lt] at this
      exact le_antisymm this (hv a)
  · have hsv := hv s
    have he1 : (0 : ℝ) < (2 : ℝ) ^ (-126 : ℤ) := by positivity
    have he2 : (2 : ℝ) ^ (-149 : ℤ) < (2 : ℝ) ^ (-126 : ℤ) := zpow_lt_zpow_right₀ (by norm_num) (by norm_num)
    have he3 : (0 : ℝ) < (2 : ℝ) ^ (-23 : ℤ) := by positivity
    have hlt : ∀ b ∉ S, v b < v s := fun b hb => by
      have := hgap b hb
      have : 0 ≤ v s * (2 : ℝ) ^ (-23 : ℤ) := by positivity
      linarith
    have hle : grid w ≤ v s := by
      by_contra hne
      push Not at hne
      have : (Finset.univ.filter fun a => grid w ≤ v a) ⊆ S.erase s := by
        intro a ha
        rw [Finset.mem_filter] at ha
        rw [Finset.mem_erase]
        refine ⟨fun h => by rw [h] at ha; linarith [ha.2], ?_⟩
        by_contra hb
        have := hlt a hb
        linarith [ha.2]
      have h1 := Finset.card_le_card this
      rw [Finset.card_erase_of_mem hs] at h1
      have := Finset.card_pos.mpr hS
      omega
    have hsub : ∀ b ∉ S, v b < grid w := by
      intro b hb
      by_cases hw1 : w + 1 < top
      · have h2 : v s < grid (w + 1) := by
          by_contra hne
          push Not at hne
          have : S ⊆ (Finset.univ.filter fun a => grid (w + 1) ≤ v a) := fun a ha => by
            rw [Finset.mem_filter]; exact ⟨Finset.mem_univ _, hne.trans (hmin a ha)⟩
          have := Finset.card_le_card this
          have := hQ hw1
          omega
        rw [grid_succ] at h2
        have h3 := gap_le w
        have h4 := hgap b hb
        have h5 : grid w * (2 : ℝ) ^ (-23 : ℤ) ≤ v s * (2 : ℝ) ^ (-23 : ℤ) := mul_le_mul_of_nonneg_right hle he3.le
        linarith
      · have : w = top - 1 := by unfold top at *; omega
        have : v s = grid w := le_antisymm (this ▸ hmax) hle
        rw [← this]; exact hlt b hb
    have hsplit : ∑ a ∈ S, v a = ∑ a ∈ S.filter (fun a => grid w < v a), v a + ∑ a ∈ S.filter (fun a => ¬ grid w < v a), v a :=
      (Finset.sum_filter_add_sum_filter_not _ _ _).symm
    have hf : S.filter (fun a => grid w < v a) = Finset.univ.filter (fun a => grid w < v a) := by
      ext a
      simp only [Finset.mem_filter, Finset.mem_univ, true_and, and_iff_right_iff_imp]
      intro h; by_contra hb; linarith [hsub a hb]
    have hrest : ∑ a ∈ S.filter (fun a => ¬ grid w < v a), v a = ((S.filter (fun a => ¬ grid w < v a)).card : ℝ) * grid w := by
      rw [Finset.sum_congr rfl (g := fun _ => grid w), Finset.sum_const, nsmul_eq_mul]
      intro a ha
      rw [Finset.mem_filter] at ha
      exact le_antisymm (not_lt.mp ha.2) (hle.trans (hmin a ha.1))
    have hcard := Finset.card_filter_add_card_filter_not (s := S) (fun a => grid w < v a)
    rw [hsplit, hrest, hf]
    rw [hf] at hcard
    have : ((S.filter (fun a => ¬ grid w < v a)).card : ℝ) = (S.card : ℝ) - ((Finset.univ.filter fun a => grid w < v a).card : ℝ) := by
      rw [← hcard]; push_cast; ring
    rw [this]; ring

end Cert.Search
end
-- ==== Proof.KVal.lean ====
/- The kernel's payloads at the ideal instance, read over one row: targets, classification losses and the
   searched top sum as numbers. -/
module

public import proofs.«01_k».proof.Proof.Body
public import proofs.«01_k».proof.Proof.Search
public import Idealize.ShloMosaic.Lib.Pointwise
public import Idealize.ShloMosaic.Lib.IndicatorCount
public import Idealize.ShloMosaic.Lib.StableHlo.Predicate

@[expose] public section
set_option maxRecDepth 16384
noncomputable section
namespace Cert.KernelIdeal.Hand
open Idealize.ShloMosaic Cert.KernelIdeal Cert.KernelIdeal.Gen Cert.Search

/-- A finite sum of reals, taken among the extended reals. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A row's number of positives. -/
def npos (t : Fin 8732 → Fin 81) : ℕ := (Finset.univ.filter (fun a => (t a).val ≠ 0)).card

/-- How many negatives a row keeps. -/
def quota (t : Fin 8732 → Fin 81) : ℕ := min (3 * npos t) 8732

/-- What an anchor offers to the hard negatives: its loss, or zero at a positive. -/
def offer (t : Fin 8732 → Fin 81) (L : Fin 8732 → ℝ) (a : Fin 8732) : ℝ := if (t a).val = 0 then L a else 0

theorem npos_le (t : Fin 8732 → Fin 81) : npos t ≤ 8732 :=
  (Finset.card_le_univ _).trans (by simp)

theorem card_real {n : ℕ} (p : Fin n → Prop) [DecidablePred p] :
    (((Finset.univ.filter (fun a => ¬ p a)).card : ℕ) : ℝ) = ∑ a, if p a then 0 else 1 := by
  rw [Finset.card_filter, Nat.cast_sum]
  exact Finset.sum_congr rfl fun a _ => by split_ifs <;> simp_all

theorem npos_real (t : Fin 8732 → Fin 81) : ((npos t : ℕ) : ℝ) = ∑ a, if (t a).val = 0 then 0 else 1 :=
  card_real fun a => (t a).val = 0

theorem sgt_target (s : Fin 81) : IntOp.cmpi .sgt (BitVec.ofNat 32 s.val) 0#32 = if s.val = 0 then 0#1 else 1#1 := by
  revert s; decide

/-- The row a grid point holds: targets `t` and classification losses `L`. -/
structure Row (v20 : IVec S1x8732 32) (v30 v38 : FVec Ideal S8732x1 .f32) (t : Fin 8732 → Fin 81) (L : Fin 8732 → ℝ) : Prop where
  tgt : ∀ a, v20 (ix2 0 a) = BitVec.ofNat 32 (t a).val
  cl : ∀ a, v38 (ix2 a 0) + Ideal.log (v30 (ix2 a 0)) = ((L a : ℝ) : EReal)
  nonneg : ∀ a, 0 ≤ L a

variable {v20 : IVec S1x8732 32} {v30 v38 : FVec Ideal S8732x1 .f32} {t : Fin 8732 → Fin 81} {L : Fin 8732 → ℝ}

theorem offer_nonneg (h : Row v20 v30 v38 t L) (a : Fin 8732) : 0 ≤ offer t L a := by
  unfold offer; split_ifs; exacts [h.nonneg a, le_rfl]

theorem pay12_at (h : Row v20 v30 v38 t L) (a : Fin 8732) : k0_pay12 v20 v30 v38 (ix2 0 a) = ((offer t L a : ℝ) : EReal) := by
  pointwise [k0_pay12, k0_pay7, k0_pay8]
  rw [h.cl a, h.tgt a, sgt_target]
  unfold offer
  split_ifs with h0
  · rfl
  · exact EReal.coe_zero.symm

theorem pay9_at (h : Row v20 v30 v38 t L) (a : Fin 8732) : k0_pay9 (F := Ideal) v20 (ix2 0 a) = (((if (t a).val = 0 then 0 else 1 : ℝ)) : EReal) := by
  pointwise [k0_pay9, k0_pay8]
  rw [h.tgt a, sgt_target]
  split_ifs with h0
  · show (((BitVec.toInt (0#32) : ℤ) : ℝ) : EReal) = _
    simp
  · show (((BitVec.toInt (1#32) : ℤ) : ℝ) : EReal) = _
    simp

theorem pay10_eq (h : Row v20 v30 v38 t L) : k0_pay10 (F := Ideal) v20 = ((npos t : ℝ) : EReal) := by
  have e : k0_pay10 (F := Ideal) v20 = ∑ _x : Fin 1, ∑ a : Fin 8732, k0_pay9 (F := Ideal) v20 (ix2 0 a) := by
    pointwise [k0_pay10]
  rw [e]
  simp only [pay9_at h, coe_sum, Finset.univ_unique, Finset.sum_singleton, npos_real]

theorem pay11_eq (h : Row v20 v30 v38 t L) : k0_pay11 v20 v30 v38 = ((∑ a, L a * (if (t a).val = 0 then 0 else 1) : ℝ) : EReal) := by
  have e : k0_pay11 v20 v30 v38 = ∑ _x : Fin 1, ∑ a : Fin 8732, (v38 (ix2 a 0) + Ideal.log (v30 (ix2 a 0))) * k0_pay9 (F := Ideal) v20 (ix2 0 a) := by
    pointwise [k0_pay11, k0_pay7]
  rw [e]
  simp only [pay9_at h, h.cl, coe_sum, Finset.univ_unique, Finset.sum_singleton, ← EReal.coe_mul]

theorem pay13_eq (h : Row v20 v30 v38 t L) : k0_pay13 v20 v30 v38 = ((∑ a, offer t L a : ℝ) : EReal) := by
  have e : k0_pay13 v20 v30 v38 = ∑ _x : Fin 1, ∑ a : Fin 8732, k0_pay12 v20 v30 v38 (ix2 0 a) := by
    pointwise [k0_pay13]
  rw [e]
  simp only [pay12_at h, coe_sum, Finset.univ_unique, Finset.sum_singleton]

/-- A small natural number, rounded to a word. -/
theorem fptosi_nat (n : ℕ) (hn : n ≤ 8732) : Scalar.fptosi (F := Ideal) (φ := .f32) 32 (((n : ℝ) : EReal)) = BitVec.ofNat 32 n := by
  show Ideal.fptosi 32 _ = _
  unfold Ideal.fptosi
  rw [Ideal.toIntClamped_coe, if_pos (by positivity), Int.floor_natCast, min_eq_right (by norm_num; omega), max_eq_right (by norm_num; try omega),
    BitVec.ofInt_natCast]

theorem eq_zero_of_ne_one (b : BitVec 1) (h : b ≠ 1#1) : b = 0#1 := by
  revert b; decide

theorem minsi_nat (a b : ℕ) (ha : a < 2 ^ 31) (hb : b < 2 ^ 31) :
    Scalar.minsi (BitVec.ofNat 32 a) (BitVec.ofNat 32 b) = BitVec.ofNat 32 (min a b) := by
  unfold Scalar.minsi IntOp.minsi
  have h := StableHlo.Predicate.slt_ofNat_iff a b ha hb
  rw [StableHlo.Predicate.ofBool_eq_one_iff] at h
  by_cases hab : a < b
  · rw [if_pos (h.2 hab), min_eq_left hab.le]
  · rw [if_neg (fun hc => hab (h.1 hc)), min_eq_right (not_lt.1 hab)]

theorem budget_eq (h : Row v20 v30 v38 t L) : budget (F := Ideal) v20 = BitVec.ofNat 32 (quota t) := by
  have hn := npos_le t
  unfold budget
  rw [pay10_eq h, fptosi_nat _ hn]
  have : Scalar.muli 3#32 (BitVec.ofNat 32 (npos t)) = BitVec.ofNat 32 (3 * npos t) := by
    show 3#32 * BitVec.ofNat 32 (npos t) = _
    rw [BitVec.ofNat_mul]
  rw [this, minsi_nat _ _ (by omega) (by norm_num)]
  rfl

/-- How many anchors offer at least the number a word names. -/
def reach (v : Fin 8732 → ℝ) (u : ℕ) : ℕ :=
  (Finset.univ.filter (fun a => Ideal.ofBits .f32 (BitVec.ofNat 32 u) ≤ ((v a : ℝ) : EReal))).card

theorem reach_le (v : Fin 8732 → ℝ) (u : ℕ) : reach v u ≤ 8732 := (Finset.card_le_univ _).trans (by simp)

/-- A count over one row, as the program folds it. -/
theorem fold_count (p : Fin 8732 → Prop) [DecidablePred p] :
    Finset.fold IntOp.addi (0#32) (fun x : Fin 1 × Fin 8732 => BitVec.setWidth 32 (BitVec.ofBool (decide (p x.2)))) Finset.univ
      = BitVec.ofNat 32 (Finset.univ.filter p).card := by
  rw [IndicatorCount.fold_addi_setWidth_eq_card (fun x : Fin 1 × Fin 8732 => BitVec.ofBool (decide (p x.2)))]
  congr 1
  refine Finset.card_bij (fun x _ => x.2) ?_ ?_ ?_
  · intro x hx
    have := (Finset.mem_filter.1 hx).2
    refine Finset.mem_filter.2 ⟨Finset.mem_univ _, ?_⟩
    by_contra hc
    simp [hc] at this
  · intro x _ y _ e
    exact Prod.ext (Subsingleton.elim _ _) e
  · intro b hb
    refine ⟨(0, b), Finset.mem_filter.2 ⟨Finset.mem_univ _, ?_⟩, rfl⟩
    simp [(Finset.mem_filter.1 hb).2]

theorem pay14_eq (h : Row v20 v30 v38 t L) (k : Fin k0_t1_loop.trips) (acc : BitVec 32) :
    extractAt ![0, 0, 0] (k0_pay14 v20 v30 v38 k acc) inpos_S1x1x1_p0_0_0
      = BitVec.ofNat 32 (reach (offer t L) (Scalar.ori acc (Scalar.shli 1#32 (Scalar.subi 30#32 (Scf.iv 0#32 1#32 k)))).toNat) := by
  have e : extractAt ![0, 0, 0] (k0_pay14 v20 v30 v38 k acc) inpos_S1x1x1_p0_0_0
      = Finset.fold IntOp.addi (0#32) (fun x : Fin 1 × Fin 8732 => BitVec.setWidth 32 (BitVec.ofBool (decide
          (Ideal.ofBits .f32 (Scalar.ori acc (Scalar.shli 1#32 (Scalar.subi 30#32 (Scf.iv 0#32 1#32 k)))) ≤ k0_pay12 v20 v30 v38 (ix2 0 x.2))))) Finset.univ := by
    pointwise [k0_pay14]
  rw [e]
  simp only [pay12_at h]
  rw [fold_count (fun a => Ideal.ofBits .f32 (Scalar.ori acc (Scalar.shli 1#32 (Scalar.subi 30#32 (Scf.iv 0#32 1#32 k)))) ≤ ((offer t L a : ℝ) : EReal))]
  unfold reach
  rw [BitVec.ofNat_toNat, BitVec.setWidth_eq]

/-- Setting a bit below the bits already set adds it. -/
theorem set_bit (i : ℕ) (hi : i < 31) (u : ℕ) (hd : 2 ^ (31 - i) ∣ u) (hu : u < 2 ^ 31) (k : Fin k0_t1_loop.trips) (hk : k.val = i) :
    Scalar.ori (BitVec.ofNat 32 u) (Scalar.shli 1#32 (Scalar.subi 30#32 (Scf.iv 0#32 1#32 k))) = BitVec.ofNat 32 (u + 2 ^ (30 - i)) := by
  have e1 : Scalar.shli 1#32 (Scalar.subi 30#32 (Scf.iv 0#32 1#32 k)) = BitVec.ofNat 32 (2 ^ (30 - i)) := by
    unfold Scf.iv
    rw [hk]
    clear hk hd
    interval_cases i <;> decide
  rw [e1]
  obtain ⟨c, rfl⟩ := hd
  show BitVec.ofNat 32 _ ||| BitVec.ofNat 32 _ = _
  apply BitVec.eq_of_toNat_eq
  have h2 : 2 ^ (30 - i) < 2 ^ (31 - i) := Nat.pow_lt_pow_right (by norm_num) (by omega)
  have h3 : (2 : ℕ) ^ (30 - i) ≤ 2 ^ 30 := Nat.pow_le_pow_right (by norm_num) (by omega)
  rw [BitVec.toNat_or, BitVec.toNat_ofNat, BitVec.toNat_ofNat, BitVec.toNat_ofNat, Nat.mod_eq_of_lt (by omega), Nat.mod_eq_of_lt (by omega),
    Nat.mod_eq_of_lt (by omega), Nat.two_pow_add_eq_or_of_lt h2]

theorem cmpi_sge_nat (a b : ℕ) (ha : a < 2 ^ 31) (hb : b < 2 ^ 31) :
    Scalar.cmpi .sge (BitVec.ofNat 32 a) (BitVec.ofNat 32 b) = if b ≤ a then 1#1 else 0#1 := by
  have h := StableHlo.Predicate.sge_iff_toNat (a := BitVec.ofNat 32 a) (b := BitVec.ofNat 32 b)
    (by rw [BitVec.toNat_ofNat, Nat.mod_eq_of_lt (by omega)]; exact ha) (by rw [BitVec.toNat_ofNat, Nat.mod_eq_of_lt (by omega)]; exact hb)
  rw [BitVec.toNat_ofNat, BitVec.toNat_ofNat, Nat.mod_eq_of_lt (by omega), Nat.mod_eq_of_lt (by omega)] at h
  split_ifs with hab
  · exact h.2 hab
  · exact eq_zero_of_ne_one _ (fun hc => hab (h.1 hc))

theorem trip_eq (h : Row v20 v30 v38 t L) (i : ℕ) (hi : i < 31) (u : ℕ) (hd : 2 ^ (31 - i) ∣ u) (hu : u < 2 ^ 31)
    (k : Fin k0_t1_loop.trips) (hk : k.val = i) :
    trip v20 v30 v38 k (BitVec.ofNat 32 u)
      = BitVec.ofNat 32 (if quota t ≤ reach (offer t L) (u + 2 ^ (30 - i)) then u + 2 ^ (30 - i) else u) := by
  have h3 : (2 : ℕ) ^ (30 - i) ≤ 2 ^ 30 := Nat.pow_le_pow_right (by norm_num) (by omega)
  have hr := reach_le (offer t L) (u + 2 ^ (30 - i))
  have hq : quota t ≤ 8732 := min_le_right _ _
  unfold trip
  rw [pay14_eq h, budget_eq h, set_bit i hi u hd hu k hk, BitVec.toNat_ofNat, Nat.mod_eq_of_lt (by omega), cmpi_sge_nat _ _ (by omega) (by omega)]
  split_ifs <;> rfl

/-- A fold over the trips, by its invariant. -/
theorem fold_inv {α : Type} {n : ℕ} (g : Fin n → α → α) (init : α) (M : ℕ → α → Prop) (h0 : M 0 init)
    (hs : ∀ (k : Fin n) a, M k.val a → M (k.val + 1) (g k a)) : M n (Scf.fold g init) := by
  rw [Scf.fold_eq]
  induction n generalizing init M with
  | zero => exact h0
  | succ n ih =>
    rw [List.finRange_succ, List.foldl_cons, List.foldl_map]
    exact ih (fun k => g k.succ) (g 0 init) (fun j => M (j + 1)) (hs 0 init h0) (fun k a hM => hs k.succ a hM)

/-- What the search looks for: that enough anchors offer at least the number named. -/
abbrev enough (t : Fin 8732 → Fin 81) (L : Fin 8732 → ℝ) (u : ℕ) : Prop := quota t ≤ reach (offer t L) u

theorem enough_top (h1 : 0 < quota t) : ¬ enough t L top := by
  unfold enough reach
  rw [ofBits_top]
  simp
  omega

theorem enough_zero (h : Row v20 v30 v38 t L) : enough t L 0 := by
  have e : reach (offer t L) 0 = 8732 := by
    unfold reach
    rw [Finset.filter_true_of_mem]
    · simp
    · intro a _
      rw [ofBits_grid 0 (by norm_num), grid_zero]
      exact_mod_cast offer_nonneg h a
  unfold enough
  rw [e]
  exact min_le_right _ _

theorem searched_eq (h : Row v20 v30 v38 t L) (h1 : 0 < quota t) :
    searched v20 v30 v38 = BitVec.ofNat 32 (search (enough t L) 31) := by
  have htr : k0_t1_loop.trips = 31 := by decide
  have := fold_inv (trip v20 v30 v38) 0#32 (fun i w => w = BitVec.ofNat 32 (search (enough t L) i)) rfl (by
    rintro k a rfl
    have hk : k.val < 31 := by have := k.isLt; omega
    obtain ⟨hd, -, hlt, -⟩ := search_inv (enough t L) (enough_top h1) (enough_zero h) k.val (by omega)
    rw [trip_eq h k.val hk _ hd (lt_trans hlt (by norm_num)) k rfl]
    rfl)
  exact this.trans (by rw [htr])

theorem pay15_form (v20 : IVec S1x8732 32) (v30 v38 : FVec Ideal S8732x1 .f32) (w : BitVec 32) :
    k0_pay15 v20 v30 v38 w
      = Scalar.select (Scalar.cmpi .eq (budget (F := Ideal) v20) 0#32) 0
        ((∑ _x : Fin 1, ∑ a, if Ideal.ofBits .f32 w < k0_pay12 v20 v30 v38 (ix2 0 a) then k0_pay12 v20 v30 v38 (ix2 0 a) else 0)
          + Ideal.ofBits .f32 w * (((Scalar.subi (budget (F := Ideal) v20)
            (Finset.fold IntOp.addi (0#32) (fun x : Fin 1 × Fin 8732 => BitVec.setWidth 32 (BitVec.ofBool (decide
              (Ideal.ofBits .f32 w < k0_pay12 v20 v30 v38 (ix2 0 x.2))))) Finset.univ)).toInt : ℝ) : EReal)) := by
  unfold budget
  pointwise [k0_pay15]

theorem sub_toInt (q c : ℕ) (hq : q ≤ 8732) (hc : c ≤ 8732) :
    (Scalar.subi (BitVec.ofNat 32 q) (BitVec.ofNat 32 c)).toInt = (q : ℤ) - c := by
  show (BitVec.ofNat 32 q - BitVec.ofNat 32 c).toInt = _
  rw [BitVec.toInt_sub, StableHlo.Predicate.toInt_ofNat_small _ (by omega), StableHlo.Predicate.toInt_ofNat_small _ (by omega)]
  apply Int.bmod_eq_of_le <;> norm_num <;> omega

theorem pay15_zero (h : Row v20 v30 v38 t L) (h1 : quota t = 0) (w : BitVec 32) : k0_pay15 v20 v30 v38 w = 0 := by
  rw [pay15_form, budget_eq h, h1]
  rfl

theorem pay15_eq (h : Row v20 v30 v38 t L) (h1 : 0 < quota t) (w : ℕ) (hw : w < top) :
    k0_pay15 v20 v30 v38 (BitVec.ofNat 32 w)
      = (((∑ a ∈ Finset.univ.filter (fun a => grid w < offer t L a), offer t L a)
          + grid w * ((quota t : ℝ) - ((Finset.univ.filter (fun a => grid w < offer t L a)).card : ℝ)) : ℝ) : EReal) := by
  have hq : quota t ≤ 8732 := min_le_right _ _
  rw [pay15_form, budget_eq h, ofBits_grid w hw]
  simp only [pay12_at h, EReal.coe_lt_coe_iff]
  rw [fold_count (fun a => grid w < offer t L a), sub_toInt _ _ hq ((Finset.card_le_univ _).trans (by simp))]
  have hne : Scalar.cmpi .eq (BitVec.ofNat 32 (quota t)) 0#32 = 0#1 := by
    refine eq_zero_of_ne_one _ fun hc => ?_
    have := congrArg BitVec.toNat (StableHlo.Predicate.cmpi_eq_iff.1 hc)
    rw [BitVec.toNat_ofNat, Nat.mod_eq_of_lt (by omega)] at this
    exact absurd this (by simpa using h1.ne')
  rw [hne]
  have hs : ∀ a, (if grid w < offer t L a then ((offer t L a : ℝ) : EReal) else 0)
      = (((if grid w < offer t L a then offer t L a else 0) : ℝ) : EReal) := fun a => by split_ifs <;> simp
  simp only [hs, coe_sum, Finset.univ_unique, Finset.sum_singleton, ← Finset.sum_filter]
  show _ + _ = _
  rw [← EReal.coe_mul, ← EReal.coe_add]
  push_cast
  rfl

theorem full_eq (h : Row v20 v30 v38 t L) : full (F := Ideal) v20 = if 8732 ≤ quota t then 1#1 else 0#1 := by
  have hq : quota t ≤ 8732 := min_le_right _ _
  unfold full
  rw [budget_eq h, cmpi_sge_nat _ _ (by omega) (by norm_num)]
  split_ifs <;> decide

/-- What the conditional returns is the sum over any set of the quota's size that the order of the offers allows,
    provided the set is separated from the rest. -/
theorem topOf_eq (h : Row v20 v30 v38 t L) (S : Finset (Fin 8732)) (hS : S.card = quota t)
    (hord : ∀ a ∈ S, ∀ b ∉ S, offer t L b ≤ offer t L a)
    (hsep : 0 < quota t → quota t < 8732 → (∃ s ∈ S, offer t L s = 0) ∨ ∃ s ∈ S, (∀ a ∈ S, offer t L s ≤ offer t L a) ∧ offer t L s ≤ maxFloat ∧
      ∀ b ∉ S, offer t L b + (offer t L s * 2 ^ (-23 : ℤ) + 2 ^ (-126 : ℤ)) ≤ offer t L s) :
    topOf v20 v30 v38 = ((∑ a ∈ S, offer t L a : ℝ) : EReal) := by
  have hq : quota t ≤ 8732 := min_le_right _ _
  unfold topOf
  rw [full_eq h]
  by_cases hf : 8732 ≤ quota t
  · rw [if_pos hf, if_pos rfl, pay13_eq h]
    have : S = Finset.univ := Finset.eq_univ_of_card _ (by rw [hS, Fintype.card_fin]; omega)
    rw [this]
  · rw [if_neg hf, if_neg (by decide)]
    by_cases h0 : quota t = 0
    · rw [pay15_zero h h0]
      have : S = ∅ := Finset.card_eq_zero.1 (by omega)
      rw [this]; simp
    · have hpos : 0 < quota t := Nat.pos_of_ne_zero h0
      rw [searched_eq h hpos]
      have hr : ∀ u < top, reach (offer t L) u = (Finset.univ.filter (fun a => grid u ≤ offer t L a)).card := by
        intro u hu
        unfold reach
        rw [ofBits_grid u hu]
        simp only [EReal.coe_le_coe_iff]
      have hanti : ∀ u v, u ≤ v → v ≤ top → enough t L v → enough t L u := by
        intro u v huv hv hE
        rcases hv.lt_or_eq with hv | rfl
        · unfold enough at hE ⊢
          rw [hr v hv] at hE
          rw [hr u (lt_of_le_of_lt huv hv)]
          exact hE.trans (Finset.card_le_card fun a ha => Finset.mem_filter.2 ⟨Finset.mem_univ _, (grid_mono huv).trans (Finset.mem_filter.1 ha).2⟩)
        · exact absurd hE (enough_top hpos)
      obtain ⟨hP, hlt, hQ⟩ := search_end (enough t L) (enough_top hpos) (enough_zero h) hanti
      generalize search (enough t L) 31 = w at hP hlt hQ ⊢
      rw [pay15_eq h hpos w hlt, ← hS]
      unfold enough at hP hQ
      rw [hr w hlt, ← hS] at hP
      rw [top_sum (offer t L) (offer_nonneg h) S (Finset.card_pos.1 (by omega)) hord (hsep hpos (by omega)) w hlt hP
        (fun hw => by rw [hr _ hw, ← hS] at hQ; omega)]

end Cert.KernelIdeal.Hand
end
-- ==== Proof.KRow.lean ====
/- The row a grid point holds, from its blocks: the targets its block of eight rows has at the point's row, the
   classification losses its logits give, and the localisation sum. -/
module

public import proofs.«01_k».proof.Proof.KVal
public import Mathlib.Data.BitVec
public import Mathlib.Analysis.SpecialFunctions.Log.Basic

@[expose] public section
set_option maxRecDepth 16384
noncomputable section
namespace Cert.KernelIdeal.Hand
open Idealize.ShloMosaic Cert.KernelIdeal Cert.KernelIdeal.Gen Cert.Search

/-- The row of the block of targets that a batch element reads, as printed. -/
def rowOf (arg0 : BitVec 32) : BitVec 32 :=
  let v5 : BitVec 1 := Scalar.cmpi .eq 8#32 0#32
  let v6 : BitVec 32 := Scalar.select v5 1#32 8#32
  let v7 : BitVec 32 := Scalar.remsi arg0 v6
  let v8 : BitVec 1 := Scalar.cmpi .ne v7 0#32
  let v9 : BitVec 1 := Scalar.cmpi .slt v7 0#32
  let v10 : BitVec 1 := Scalar.cmpi .slt v6 0#32
  let v11 : BitVec 1 := Scalar.xori v9 v10
  let v12 : BitVec 1 := Scalar.andi v11 v8
  let v13 : BitVec 32 := Scalar.addi v7 v6
  Scalar.select v12 v13 v7

theorem rowOf_eq (n : Fin 32) : rowOf (BitVec.ofNat 32 n.val) = BitVec.ofNat 32 (n.val % 8) := by
  revert n; decide

theorem select_of_eq {α : Type} (c : BitVec 1) (x y : α) (h : c = 1#1) : Scalar.select c x y = x := if_pos h

theorem select_of_ne {α : Type} (c : BitVec 1) (x y : α) (h : c ≠ 1#1) : Scalar.select c x y = y := if_neg h

/-- Picking one row by comparing row numbers and summing. -/
theorem fold_pick (f : Fin 8 → BitVec 32) (q : ℕ) (hq : q < 8) :
    Finset.fold IntOp.addi (0#32) (fun r : Fin 8 => Scalar.select (IntOp.cmpi .eq (BitVec.ofNat 32 r.val) (BitVec.ofNat 32 q)) (f r) 0#32) Finset.univ
      = f ⟨q, hq⟩ := by
  have e : ∀ r : Fin 8, Scalar.select (IntOp.cmpi .eq (BitVec.ofNat 32 r.val) (BitVec.ofNat 32 q)) (f r) 0#32 = if r = ⟨q, hq⟩ then f r else 0#32 := by
    intro r
    have hr := r.isLt
    by_cases hc : r = ⟨q, hq⟩
    · rw [select_of_eq _ _ _ (StableHlo.Predicate.cmpi_eq_iff.2 (by rw [hc])), if_pos hc]
    · rw [select_of_ne, if_neg hc]
      intro h
      have := congrArg BitVec.toNat (StableHlo.Predicate.cmpi_eq_iff.1 h)
      rw [BitVec.toNat_ofNat, BitVec.toNat_ofNat, Nat.mod_eq_of_lt (by omega), Nat.mod_eq_of_lt (by omega)] at this
      exact hc (Fin.ext this)
  simp only [e]
  have := Finset.sum_eq_fold (Finset.univ : Finset (Fin 8)) (fun r => if r = ⟨q, hq⟩ then f r else 0#32)
  exact Eq.trans this.symm ((Finset.sum_ite_eq' Finset.univ (⟨q, hq⟩ : Fin 8) f).trans (if_pos (Finset.mem_univ _)))

theorem pay2_at (i : grid0.Coords) (x : Vec Ideal S8x8732 .i32) (a : Fin 8732) :
    k0_pay2 (F := Ideal) i x (ix2 0 a) = x (ix2 ⟨(i 0).val % 8, Nat.mod_lt _ (by norm_num)⟩ a) := by
  have e : k0_pay2 (F := Ideal) i x (ix2 0 a)
      = Finset.fold IntOp.addi (0#32) (fun r : Fin 8 => Scalar.select (IntOp.cmpi .eq (BitVec.ofNat 32 r.val) (rowOf (BitVec.ofNat 32 (i 0).val))) (x (ix2 r a)) 0#32) Finset.univ := by
    pointwise [k0_pay2]
    rfl
  rw [e, rowOf_eq (i 0)]
  exact fold_pick (fun r => x (ix2 r a)) _ _

/-- The greatest of a row's logits is a real number. -/
theorem fold_max_coe (y : Fin 81 → ℝ) :
    ∃ M : ℝ, Finset.fold max (Ideal.ofBits .f32 4286578688#32) (fun j => ((y j : ℝ) : EReal)) Finset.univ = ((M : ℝ) : EReal) := by
  obtain ⟨j0, -, hj⟩ := Finset.exists_max_image (Finset.univ : Finset (Fin 81)) y ⟨0, Finset.mem_univ _⟩
  refine ⟨y j0, le_antisymm ?_ ?_⟩
  · refine (Finset.fold_max_le _).2 ⟨?_, fun j _ => EReal.coe_le_coe_iff.2 (hj j (Finset.mem_univ _))⟩
    have : Ideal.ofBits .f32 4286578688#32 = (⊥ : EReal) := by
      simp [Ideal.ofBits, Ideal.ieee]
    rw [this]; exact bot_le
  · exact (Finset.le_fold_max _).2 (Or.inr ⟨j0, Finset.mem_univ _, le_rfl⟩)

/-- The loss of one anchor: the logarithm of the sum of exponentials less the target's logit. -/
def lossOf (y : Fin 81 → ℝ) (s : Fin 81) : ℝ := Real.log (∑ j, Real.exp (y j)) - y s

theorem sum_exp_pos (y : Fin 81 → ℝ) : 0 < ∑ j, Real.exp (y j) :=
  Finset.sum_pos (fun j _ => Real.exp_pos _) ⟨0, Finset.mem_univ _⟩

theorem lossOf_nonneg (y : Fin 81 → ℝ) (s : Fin 81) : 0 ≤ lossOf y s := by
  unfold lossOf
  have h : Real.exp (y s) ≤ ∑ j, Real.exp (y j) := Finset.single_le_sum (f := fun j => Real.exp (y j)) (fun j _ => (Real.exp_pos _).le) (Finset.mem_univ s)
  have := Real.log_le_log (Real.exp_pos _) h
  rw [Real.log_exp] at this
  linarith

theorem lossOf_shift (y : Fin 81 → ℝ) (s : Fin 81) (M : ℝ) : M - y s + Real.log (∑ j, Real.exp (y j - M)) = lossOf y s := by
  have e : ∑ j, Real.exp (y j - M) = (∑ j, Real.exp (y j)) * Real.exp (-M) := by
    rw [Finset.sum_mul]
    exact Finset.sum_congr rfl fun j _ => by rw [← Real.exp_add, sub_eq_add_neg]
  unfold lossOf
  rw [e, Real.log_mul (sum_exp_pos y).ne' (Real.exp_pos _).ne', Real.log_exp]
  ring

theorem ideal_log_pos (r : ℝ) (h : 0 < r) : Ideal.log ((r : ℝ) : EReal) = ((Real.log r : ℝ) : EReal) := by
  rw [Ideal.log_coe, if_neg (not_le.2 h)]

/-- Picking one class by comparing class numbers and summing. -/
theorem sum_pick (f : Fin 81 → EReal) (s : Fin 81) :
    ∑ j : Fin 81, Scalar.select (IntOp.cmpi .eq (BitVec.ofNat 32 j.val) (BitVec.ofNat 32 s.val)) (f j) 0 = f s := by
  rw [Finset.sum_eq_single s]
  · exact select_of_eq _ _ _ (StableHlo.Predicate.cmpi_eq_iff.2 rfl)
  · intro j _ hj
    rw [select_of_ne]
    intro h
    have := congrArg BitVec.toNat (StableHlo.Predicate.cmpi_eq_iff.1 h)
    have h1 := j.isLt
    have h2 := s.isLt
    rw [BitVec.toNat_ofNat, BitVec.toNat_ofNat, Nat.mod_eq_of_lt (by omega), Nat.mod_eq_of_lt (by omega)] at this
    exact hj (Fin.ext this)
  · exact fun h => absurd (Finset.mem_univ _) h

theorem row_of (i : grid0.Coords) (x0 : Vec Ideal S1x8732x81 .f32) (x1 : Vec Ideal S8x8732 .i32)
    (y : Fin 8732 → Fin 81 → ℝ) (t : Fin 8732 → Fin 81)
    (hx : ∀ a j, x0 (ix3 0 a j) = ((y a j : ℝ) : EReal))
    (ht : ∀ a, x1 (ix2 ⟨(i 0).val % 8, Nat.mod_lt _ (by norm_num)⟩ a) = BitVec.ofNat 32 (t a).val) :
    Row (k0_pay2 (F := Ideal) i x1) (k0_pay5 x0) (k0_pay6 i x1 x0) t (fun a => lossOf (y a) (t a)) where
  tgt a := (pay2_at i x1 a).trans (ht a)
  nonneg a := lossOf_nonneg _ _
  cl a := by
    have e5 : k0_pay5 x0 (ix2 a 0) = ∑ j, Ideal.exp (x0 (ix3 0 a j) - Finset.fold max (Ideal.ofBits .f32 4286578688#32) (fun j => x0 (ix3 0 a j)) Finset.univ) := by
      pointwise [k0_pay5, k0_pay4, k0_pay3]
    have e6 : k0_pay6 i x1 x0 (ix2 a 0) = Finset.fold max (Ideal.ofBits .f32 4286578688#32) (fun j => x0 (ix3 0 a j)) Finset.univ
        - ∑ j : Fin 81, Scalar.select (IntOp.cmpi .eq (BitVec.ofNat 32 j.val) (k0_pay2 (F := Ideal) i x1 (ix2 0 a))) (x0 (ix3 0 a j)) 0 := by
      pointwise [k0_pay6, k0_pay4, k0_pay3]
    rw [e5, e6, (pay2_at i x1 a).trans (ht a)]
    simp only [hx]
    obtain ⟨M, hM⟩ := fold_max_coe (y a)
    rw [hM, sum_pick (fun j => ((y a j : ℝ) : EReal))]
    simp only [← EReal.coe_sub, Ideal.exp_coe, coe_sum]
    rw [ideal_log_pos _ (sum_exp_pos (fun j => y a j - M)), ← EReal.coe_add, lossOf_shift]

end Cert.KernelIdeal.Hand
end
-- ==== Proof.KLoc.lean ====
/- What a grid point adds to the localisation sum: its four rows of the block of eight. -/
module

public import proofs.«01_k».proof.Proof.KVal
public import Idealize.ShloMosaic.Lib.Pointwise

@[expose] public section
set_option maxRecDepth 16384
noncomputable section
namespace Cert.KernelIdeal.Hand
open Idealize.ShloMosaic Cert.KernelIdeal Cert.KernelIdeal.Gen Cert.Search

/-- The smooth absolute difference of one coordinate. -/
def smooth (d : EReal) : EReal :=
  if FloatOps.absf (F := Ideal) (φ := .f32) d < (1 : EReal) then Ideal.ofBits .f32 0x3F000000#32 * d * d
  else FloatOps.absf (F := Ideal) (φ := .f32) d - Ideal.ofBits .f32 0x3F000000#32

theorem firstRow_eq (n : Fin 32) : firstRow (BitVec.ofNat 32 n.val) = BitVec.ofNat 32 (4 * (n.val % 2)) := by
  revert n; decide

theorem within_four (h : Fin 2) (r : Fin 8) :
    IntOp.andi (IntOp.cmpi .sge (BitVec.ofNat 32 r.val) (BitVec.ofNat 32 (4 * h.val)))
      (IntOp.cmpi .slt (BitVec.ofNat 32 r.val) (IntOp.addi (BitVec.ofNat 32 (4 * h.val)) 4#32))
      = if r.val / 4 = h.val then 1#1 else 0#1 := by
  revert h r; decide

/-- Four consecutive rows of eight. -/
theorem sum_four (f : Fin 8 → EReal) (h : Fin 2) :
    ∑ r : Fin 8, Scalar.select (if r.val / 4 = h.val then 1#1 else 0#1) (f r) 0
      = ∑ c : Fin 4, f ⟨4 * h.val + c.val, by have := h.isLt; have := c.isLt; omega⟩ := by
  have e : ∀ r : Fin 8, Scalar.select (if r.val / 4 = h.val then 1#1 else 0#1) (f r) 0 = if r.val / 4 = h.val then f r else 0 := by
    intro r
    by_cases hc : r.val / 4 = h.val
    · rw [if_pos hc, if_pos hc]; rfl
    · rw [if_neg hc, if_neg hc]; rfl
  simp only [e]
  fin_cases h <;> simp [Fin.sum_univ_succ] <;> rfl

theorem pay18_eq (n : Fin 32) (i) (v45 : FVec Ideal S1x8732 .f32) (x y : Vec Ideal S8x8732 .f32) (z : EReal) :
    k0_pay18 (F := Ideal) (iota .tc S8x8732 32 [0] i) v45 (firstRow (BitVec.ofNat 32 n.val)) (k0_pay16 x) y z
      = z + ∑ a : Fin 8732, (∑ c : Fin 4, smooth (x (ix2 ⟨4 * (n.val % 2) + c.val, by have := c.isLt; omega⟩ a)
          - y (ix2 ⟨4 * (n.val % 2) + c.val, by have := c.isLt; omega⟩ a))) * v45 (ix2 0 a) := by
  have e : k0_pay18 (F := Ideal) (iota .tc S8x8732 32 [0] i) v45 (firstRow (BitVec.ofNat 32 n.val)) (k0_pay16 x) y z
      = z + ∑ _x : Fin 1, ∑ a : Fin 8732, (∑ r : Fin 8, Scalar.select
          (IntOp.andi (IntOp.cmpi .sge (BitVec.ofNat 32 r.val) (firstRow (BitVec.ofNat 32 n.val)))
            (IntOp.cmpi .slt (BitVec.ofNat 32 r.val) (IntOp.addi (firstRow (BitVec.ofNat 32 n.val)) 4#32)))
          (smooth (x (ix2 r a) - y (ix2 r a))) 0) * v45 (ix2 0 a) := by
    unfold smooth
    generalize firstRow (BitVec.ofNat 32 n.val) = w
    pointwise [k0_pay18, k0_pay16]
    rfl
  rw [e, firstRow_eq]
  have hw := within_four ⟨n.val % 2, Nat.mod_lt _ (by norm_num)⟩
  simp only at hw
  simp only [hw, Finset.univ_unique, Finset.sum_singleton]
  congr 1
  refine Finset.sum_congr rfl fun a _ => ?_
  congr 1
  exact sum_four (fun r => smooth (x (ix2 r a) - y (ix2 r a))) ⟨n.val % 2, Nat.mod_lt _ (by norm_num)⟩

end Cert.KernelIdeal.Hand
end
-- ==== Proof.KBlk.lean ====
/- The blocks a grid point finds, read off the argument arrays. -/
module

public import proofs.«01_k».proof.Proof.Run
public import Idealize.ShloMosaic.Lib.Pointwise
public import Idealize.ShloMosaic.Lib.Pipeline.ValueKit

@[expose] public section
set_option maxRecDepth 16384
noncomputable section
namespace Cert.KernelIdeal.Hand
open Idealize.ShloMosaic Idealize.ShloMosaic.TcCoe Idealize.ShloMosaic.Tactic Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The grid point as a row number. -/
def row (t : Fin cfg0.N) : Fin 32 := ⟨t.val, lt_of_lt_of_eq t.isLt N_0⟩

theorem coord0 : ∀ t : Fin cfg0.N, (grid0.coords t 0).val = t.val := by decide +kernel

theorem idx : ∀ t : Fin cfg0.N, win0_0.index t = ![t.val, 0, 0] ∧ win0_1.index t = ![t.val / 8, 0]
    ∧ win0_2.index t = ![t.val / 2, 0] ∧ win0_3.index t = ![t.val / 2, 0] := by decide +kernel

theorem blk0 (c : Dev nD) (t : Fin cfg0.N) (a : Fin 8732) (j : Fin 81) :
    iblk m c 0 t (ix3 0 a j) = m ((c : Thread nD τ).loc main_arg2) (ix3 (row t) a j) := by
  unfold row
  blk_ext! [iblk, V, idx t]

theorem blk1 (c : Dev nD) (t : Fin cfg0.N) (a : Fin 8732) :
    iblk m c 1 t (ix2 ⟨t.val % 8, Nat.mod_lt _ (by norm_num)⟩ a) = m ((c : Thread nD τ).loc main_arg3) (ix2 (row t) a) := by
  unfold row
  blk_ext! [iblk, V, idx t]

theorem V_v1 (c : Dev nD) : V m c main_call0_v1
    = shapeCast S128x8732 (transpose S32x4x8732 [0, 2, 1] (m ((c : Thread nD τ).loc main_arg0)) transposes_S32x8732x4_S32x4x8732_0_2_1)
        shapeCasts_S32x4x8732_S128x8732 := by
  entry_read
  try rfl

theorem blk2 (c : Dev nD) (t : Fin cfg0.N) (k : Fin 4) (a : Fin 8732) :
    iblk m c 2 t (ix2 ⟨4 * (t.val % 2) + k.val, by omega⟩ a) = m ((c : Thread nD τ).loc main_arg0) (ix3 (row t) a k) := by
  have hN : t.val < 32 := (row t).isLt
  have e : iblk m c 2 t (ix2 ⟨4 * (t.val % 2) + k.val, by omega⟩ a)
      = V m c main_call0_v1 (ix2 ⟨4 * t.val + k.val, by omega⟩ a) := by
    blk_ext [iblk, idx t]
  rw [e, V_v1]
  pointwise []
  unfold row
  blk_ext []

theorem V_v3 (c : Dev nD) : V m c main_call0_v3
    = shapeCast S128x8732 (transpose S32x4x8732 [0, 2, 1] (m ((c : Thread nD τ).loc main_arg1)) transposes_S32x8732x4_S32x4x8732_0_2_1)
        shapeCasts_S32x4x8732_S128x8732 := by
  entry_read
  try rfl

theorem blk3 (c : Dev nD) (t : Fin cfg0.N) (k : Fin 4) (a : Fin 8732) :
    iblk m c 3 t (ix2 ⟨4 * (t.val % 2) + k.val, by omega⟩ a) = m ((c : Thread nD τ).loc main_arg1) (ix3 (row t) a k) := by
  have hN : t.val < 32 := (row t).isLt
  have e : iblk m c 3 t (ix2 ⟨4 * (t.val % 2) + k.val, by omega⟩ a)
      = V m c main_call0_v3 (ix2 ⟨4 * t.val + k.val, by omega⟩ a) := by
    blk_ext [iblk, idx t]
  rw [e, V_v3]
  pointwise []
  unfold row
  blk_ext []

end Cert.KernelIdeal.Hand
end
-- ==== Proof.KRes.lean ====
/- The result array after the run. -/
module

public import proofs.«01_k».proof.Proof.Run
public import Idealize.ShloMosaic.Lib.Pointwise
public import Idealize.ShloMosaic.Lib.Pipeline.ValueKit

@[expose] public section
set_option maxRecDepth 16384
noncomputable section
namespace Cert.KernelIdeal.Hand
open Idealize.ShloMosaic Idealize.ShloMosaic.TcCoe Idealize.ShloMosaic.Tactic Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- The last grid point. -/
def lastPt : Fin cfg0.N := ⟨31, by rw [show cfg0.N = 32 from N_0]; norm_num⟩

theorem out_array (c : Dev nD) : (dats m 0 c).arrAt 4 cfg0.N = outOf (sumsAt m c 32) := by
  refine (dats m 0 c).arrAt_eq_of_after_last 4 lastPt (by decide +kernel) _ fun j => ?_
  blk_simp
  rw [after0_4]
  rfl

theorem result (c : Dev nD) :
    Pipeline.afterTail₀ cfgs (dats m) 0 (V0 m) [hostOps1] c main_v0 = shapeCast S_ (outOf (sumsAt m c 32)) shapeCasts_S1x1_S_ := by
  unfold Pipeline.afterTail₀
  simp only [hostOps1, List.flatten_cons, List.flatten_nil, List.append_nil]
  after_results
  have e := Pipeline.withArrays_arr (cfgs 0).spec launch0.win.arr_inj c (V0 m c) (fun w => (dats m 0 c).arrAt w (cfgs 0).N) 4
  funext i
  have e' := (congrArg (fun (w : Buf (Elt F) ((c : Thread nD τ).loc main_call0_v4)) => shapeCast S_ w shapeCasts_S1x1_S_ i) (e.trans (out_array m c)))
  exact e'

/-- The run of the program: the result array at the quotient of the three sums, the arguments unchanged. -/
theorem run : θ_run defs (onTc (τ := τ) (main (F := F))) ⟨m, fun _ => 0, ρ⟩ (fun r => ∀ c : Dev nD,
      r.2.mem ((c.tc : Thread nD τ).loc main_v0) = shapeCast S_ (outOf (sumsAt m c 32)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v0 (Pipeline.mem_restRefs_of main_v0 (by decide) (by decide))).trans (result m c), h.2 c⟩)
    (θ_run_and (run_main m ρ) (unchanged m ρ))

end Cert.KernelIdeal.Hand
end
-- ==== Proof.Rank.lean ====
/- Sorting twice: the positions of an argsort, argsorted, are the ranks. -/
module

public import proofs.«01_k».proof.ReferenceIdeal
public import Idealize.ShloMosaic.Lib.Pointwise
public import Idealize.ShloMosaic.Lib.SortFacts
public import Idealize.ShloMosaic.Lib.StableHlo.Predicate

@[expose] public section
set_option maxRecDepth 16384
noncomputable section
namespace Cert.Rank
open Idealize.ShloMosaic

/-- Two permutations whose composite never inverts a pair undo one another. -/
theorem undo {A : ℕ} (σ ρ : Fin A → Fin A) (hσ : Function.Injective σ) (hρ : Function.Injective ρ)
    (hm : ∀ i j, i < j → ¬ σ (ρ j) < σ (ρ i)) (k : Fin A) : σ (ρ k) = k := by
  have hs : StrictMono (fun i => σ (ρ i)) := fun i j hij =>
    lt_of_le_of_ne (not_lt.1 (hm i j hij)) fun h => hij.ne (hρ (hσ h))
  have hsurj : Function.Surjective (fun i => σ (ρ i)) := Finite.surjective_of_injective hs.injective
  have := (StrictMono.range_inj hs (strictMono_id (α := Fin A))).1 (by rw [hsurj.range_eq]; simp)
  exact congrFun this k

/-- The positions whose rank is below `K`: as many as `K`, and none outside has a smaller key. -/
theorem ranked {A : ℕ} (key : Fin A → EReal) (K : ℕ) :
    let σ := sortedFrom (fun k k' : Fin A => decide (key k < key k'))
    let ρ := sortedFrom (fun k k' : Fin A => decide (σ k < σ k'))
    (Finset.univ.filter (fun a => (ρ a).val < K)).card = min K A ∧
      ∀ a, (ρ a).val < K → ∀ b, ¬ (ρ b).val < K → key a ≤ key b := by
  intro σ ρ
  have hσ : Function.Injective σ := sortedFrom_injective _
  have hρ : Function.Injective ρ := sortedFrom_injective _
  have hu : ∀ k, σ (ρ k) = k := undo σ ρ hσ hρ fun i j hij => by
    have := sortedFrom_noInversion (fun k k' : Fin A => decide (σ k < σ k')) (fun k k' : Fin A => decide (σ k < σ k'))
      (fun a b h => by simp at h ⊢; exact h.le) (fun a b h => h) (fun a b c h1 h2 => by simp at h1 h2 ⊢; exact h2.trans h1) i j hij
    simpa using this
  constructor
  · have hb : Function.Bijective ρ := Finite.injective_iff_bijective.1 hρ
    rw [Finset.card_bij (t := Finset.univ.filter (fun b : Fin A => b.val < K)) (fun a _ => ρ a)
      (fun a ha => Finset.mem_filter.2 ⟨Finset.mem_univ _, (Finset.mem_filter.1 ha).2⟩)
      (fun a _ b _ h => hρ h)
      (fun b hb' => by
        obtain ⟨a, rfl⟩ := hb.2 b
        exact ⟨a, Finset.mem_filter.2 ⟨Finset.mem_univ _, (Finset.mem_filter.1 hb').2⟩, rfl⟩)]
    rw [Fin.card_filter_val_lt, min_comm]
  · intro a ha b hb
    have hab : ρ a < ρ b := by rw [Fin.lt_def]; omega
    have := sortedFrom_noInversion (fun k k' : Fin A => decide (key k < key k')) (fun k k' : Fin A => decide (key k < key k'))
      (fun a b h => by simp at h ⊢; exact h.le) (fun a b h => h) (fun a b c h1 h2 => by simp at h1 h2 ⊢; exact h2.trans h1) _ _ hab
    have e : ¬ key (σ (ρ b)) < key (σ (ρ a)) := by simpa using this
    rw [hu, hu] at e
    exact not_lt.1 e

open Cert.ReferenceIdeal

/-- The positions in order of their keys. -/
def order (M : FVec Ideal S32x8732 .f32) : IVec S32x8732 32 :=
  (Host.sort2 S32x8732 1 comparator_f32_i32_d1 M (iotaInDim S32x8732 32 1)).2

/-- The rank of each position. -/
def rank (M : FVec Ideal S32x8732 .f32) : IVec S32x8732 32 :=
  (Host.sort2 S32x8732 1 comparator_i32_i32_d1 (order M) (iotaInDim S32x8732 32 1)).2

theorem along_at (n : Fin 32) (k : Fin 8732) (h : 1 < S32x8732.rank) (k' : Fin 8732) :
    (ix2 n k : S32x8732.Idx).along ⟨1, h⟩ k' = ix2 n k' := by
  funext a
  fin_cases a <;> rfl

/-- The sort's canonical form of a key is the key: zero has one sign and nothing differs from itself. -/
theorem canonical (x : EReal) :
    Scalar.select (Ideal.cmp .une x x) (Ideal.ofBits .f32 0x7FC00000#32)
      (Scalar.select (Ideal.cmp .oeq x (Ideal.ofBits .f32 0x00000000#32)) (Ideal.ofBits .f32 0x00000000#32) x) = x := by
  have h0 : Ideal.ofBits .f32 0x00000000#32 = (0 : EReal) := by simp [Ideal.ofBits, Ideal.ieee]
  rw [h0]
  by_cases hx : x = 0 <;> simp [Ideal.cmp, Scalar.select, hx]

theorem before_at (x y : Ideal .f32) (i j : BitVec 32) :
    (comparator_f32_i32_d1 (F := Ideal) (x, i) (y, j) == 1#1) = decide (x < y) := by
  have e : comparator_f32_i32_d1 (F := Ideal) (x, i) (y, j) = BitVec.ofBool (decide (x < y)) := by
    refine Eq.trans (?_ : _ = Ideal.cmp .olt _ _) (congrArg₂ (Ideal.cmp .olt) (canonical x) (canonical y))
    rfl
  rw [e]
  by_cases h : x < y <;> simp [h]

/-- A sort along a row, read at one position. -/
theorem sortBy_at {ι α : Type} (cmp : ι → ι → BitVec 1) (rows : S32x8732.Idx → ι) (x : S32x8732.Idx → α) (n : Fin 32) (k : Fin 8732) :
    Host.sortBy S32x8732 1 cmp rows x (ix2 n k)
      = x (ix2 n (sortedFrom (fun k k' : Fin 8732 => cmp (rows (ix2 n k)) (rows (ix2 n k')) == 1#1) k)) := by
  have hd : 1 < S32x8732.rank := by decide
  refine (dif_pos hd).trans (congrArg x ?_)
  refine (along_at n k hd _).trans ?_
  refine congrArg (fun B : Fin 8732 → Fin 8732 → Bool => (ix2 n (sortedFrom B k) : S32x8732.Idx)) ?_
  funext a b
  exact congrArg₂ (fun p q => cmp (rows p) (rows q) == 1#1) (along_at n k hd a) (along_at n k hd b)

theorem order_at (M : FVec Ideal S32x8732 .f32) (n : Fin 32) (k : Fin 8732) :
    order M (ix2 n k) = BitVec.ofNat 32 (sortedFrom (fun k k' : Fin 8732 => decide (M (ix2 n k) < M (ix2 n k'))) k).val := by
  unfold order
  rw [Host.sort2_eq_sortBy]
  dsimp only
  refine (sortBy_at _ _ _ n k).trans ?_
  simp only [before_at]
  rfl

theorem slt_at {A : ℕ} (hA : A ≤ 2 ^ 31) (i j : Fin A) (p q : BitVec 32) :
    (comparator_i32_i32_d1 (BitVec.ofNat 32 i.val, p) (BitVec.ofNat 32 j.val, q) == 1#1) = decide (i < j) := by
  have h := StableHlo.Predicate.slt_ofNat_iff i.val j.val (lt_of_lt_of_le i.isLt hA) (lt_of_lt_of_le j.isLt hA)
  rw [Bool.eq_iff_iff, beq_iff_eq, decide_eq_true_iff, Fin.lt_def]
  exact h

theorem rank_at (M : FVec Ideal S32x8732 .f32) (n : Fin 32) (k : Fin 8732) :
    rank M (ix2 n k) = BitVec.ofNat 32 (sortedFrom (fun k k' : Fin 8732 =>
      decide (sortedFrom (fun k k' : Fin 8732 => decide (M (ix2 n k) < M (ix2 n k'))) k
        < sortedFrom (fun k k' : Fin 8732 => decide (M (ix2 n k) < M (ix2 n k'))) k')) k).val := by
  unfold rank
  rw [Host.sort2_eq_sortBy]
  dsimp only
  refine (sortBy_at _ _ _ n k).trans ?_
  simp only [order_at, slt_at (A := 8732) (by norm_num)]
  rfl

/-- The positions of a row whose rank is below `K`. -/
def kept (M : FVec Ideal S32x8732 .f32) (n : Fin 32) (K : ℕ) : Finset (Fin 8732) :=
  Finset.univ.filter (fun a => (rank M (ix2 n a)).toNat < K)

theorem kept_spec (M : FVec Ideal S32x8732 .f32) (n : Fin 32) (K : ℕ) :
    (kept M n K).card = min K 8732 ∧ ∀ a ∈ kept M n K, ∀ b ∉ kept M n K, M (ix2 n a) ≤ M (ix2 n b) := by
  have h := ranked (A := 8732) (fun a => M (ix2 n a)) K
  have e : ∀ a, (rank M (ix2 n a)).toNat = (sortedFrom (fun k k' : Fin 8732 =>
      decide (sortedFrom (fun k k' : Fin 8732 => decide (M (ix2 n k) < M (ix2 n k'))) k
        < sortedFrom (fun k k' : Fin 8732 => decide (M (ix2 n k) < M (ix2 n k'))) k')) a).val := by
    intro a
    rw [rank_at, BitVec.toNat_ofNat, Nat.mod_eq_of_lt (lt_trans (Fin.isLt _) (by norm_num))]
  unfold kept
  simp only [e, Finset.mem_filter, Finset.mem_univ, true_and]
  exact h

theorem rank_lt (M : FVec Ideal S32x8732 .f32) (n : Fin 32) (a : Fin 8732) : (rank M (ix2 n a)).toNat < 8732 := by
  rw [rank_at, BitVec.toNat_ofNat, Nat.mod_eq_of_lt (lt_trans (Fin.isLt _) (by norm_num))]
  exact Fin.isLt _

end Cert.Rank
end
-- ==== Proof.RVal.lean ====
/- The reference, stage by stage: each stage named once, and read at an index as numbers. -/
module

public import proofs.«01_k».proof.Proof.Rank
public import proofs.«01_k».proof.Proof.KRow
public import proofs.«01_k».proof.Proof.KLoc
public import proofs.«01_k».proof.Proof.Gen.ReferenceIdeal.Run

@[expose] public section
set_option maxRecDepth 16384
noncomputable section
namespace Cert.ReferenceIdeal.Hand
open Idealize.ShloMosaic Idealize.ShloMosaic.TcCoe Cert.ReferenceIdeal Cert.ReferenceIdeal.Gen Cert.Rank

/-- Which anchors are positive. -/
def isPos (T : IVec S32x8732 32) : IVec S32x8732 1 :=
  cmpi .sgt T (broadcastInDim S32x8732 ![] bcast_S_S32x8732 (constantI S_ 32 0#32))

/-- The target class, clipped into the table. -/
def clipped (T : IVec S32x8732 32) : IVec S32x8732x1 32 :=
  broadcastInDim S32x8732x1 ![0, 1] bcast_S32x8732_S32x8732x1_0_1
    (minsi (broadcastInDim S32x8732 ![] bcast_S_S32x8732 (id (constantI S_ 32 80#32)))
      (maxsi (broadcastInDim S32x8732 ![] bcast_S_S32x8732 (id (constantI S_ 32 0#32))) T))

/-- The start indices of the gather. -/
def starts (T : IVec S32x8732 32) : IVec S32x8732x1x1 32 :=
  shapeCast _ (select (cmpi .slt (clipped T) (broadcastInDim S32x8732x1 ![] bcast_S_S32x8732x1 (constantI S_ 32 0#32)))
    (addi (clipped T) (broadcastInDim S32x8732x1 ![] bcast_S_S32x8732x1 (constantI S_ 32 81#32))) (clipped T)) shapeCasts_S32x8732x1_S32x8732x1x1

/-- Whether a start index is inside the table. -/
def inside (T : IVec S32x8732 32) : IVec S32x8732x1 1 :=
  Host.reduce IntOp.andi
    (andi (cmpi .sge (starts T) (broadcastInDim S32x8732x1x1 ![] bcast_S_S32x8732x1x1 (constantI S_ 32 0#32)))
      (cmpi .sle (starts T) (broadcastInDim S32x8732x1x1 ![0, 1, 2, 3] bcast_S1x1x1x1_S32x8732x1x1_0_1_2_3
        (broadcastInDim S1x1x1x1 ![3] bcast_S1_S1x1x1x1_3 (constantI S1 32 80#32)))))
    (constantI S_ 1 1#1) reducesTo_S32x8732x1x1_S32x8732x1_d3 h_S_

/-- The logit of the target class. -/
def picked (X : FVec Ideal S32x8732x81 .f32) (T : IVec S32x8732 32) : FVec Ideal S32x8732 .f32 :=
  shapeCast _ (select (inside T) (Host.gather gather_S32x8732x81_S32x8732x1x1_S32x8732x1_n_2_01_01_2_3_111 X (starts T))
    (broadcastInDim S32x8732x1 ![] bcast_S_S32x8732x1 (constant S_ .f32 0x7FC00000#32))) shapeCasts_S32x8732x1_S32x8732

/-- The classification loss of each anchor. -/
def loss (X : FVec Ideal S32x8732x81 .f32) (T : IVec S32x8732 32) : FVec Ideal S32x8732 .f32 :=
  select (cmpi .slt T (broadcastInDim S32x8732 ![] bcast_S_S32x8732 (constantI S_ 32 0#32)))
    (broadcastInDim S32x8732 ![] bcast_S_S32x8732 (id (constant S_ .f32 0x00000000#32)))
    (subf (Host.log (Host.reduceAdd (Host.exp X) (constant S_ .f32 0x00000000#32) reducesTo_S32x8732x81_S32x8732_d2 h_S_)) (picked X T))

/-- The key the negatives are ranked by. -/
def masked (X : FVec Ideal S32x8732x81 .f32) (T : IVec S32x8732 32) : FVec Ideal S32x8732 .f32 :=
  mulf (loss X T) (subf (uitofp .f32 (isPos T)) (broadcastInDim S32x8732 ![] bcast_S_S32x8732 (constant S_ .f32 0x3F800000#32)))

/-- Three times each row's positives. -/
def allowed (T : IVec S32x8732 32) : IVec S32 32 :=
  muli (broadcastInDim S32 ![] bcast_S_S32 (constantI S_ 32 3#32))
    (Host.reduce IntOp.addi (extui 32 (isPos T) natLt_1_32) (constantI S_ 32 0#32) reducesTo_S32x8732_S32_d1 h_S_)

/-- The hard negatives. -/
def hard (X : FVec Ideal S32x8732x81 .f32) (T : IVec S32x8732 32) : IVec S32x8732 1 :=
  cmpi .slt (rank (masked X T)) (broadcastInDim S32x8732 ![0, 1] bcast_S32x1_S32x8732_0_1
    (broadcastInDim S32x1 ![0] bcast_S32_S32x1_0 (allowed T)))

/-- The smooth difference of the boxes. -/
def boxes (P Q : FVec Ideal S32x8732x4 .f32) : FVec Ideal S32x8732x4 .f32 :=
  select (cmpf .olt (Host.absf (subf P Q)) (broadcastInDim S32x8732x4 ![] bcast_S_S32x8732x4 (constant S_ .f32 0x3F800000#32)))
    (mulf (mulf (broadcastInDim S32x8732x4 ![] bcast_S_S32x8732x4 (constant S_ .f32 0x3F000000#32)) (subf P Q)) (subf P Q))
    (subf (Host.absf (subf P Q)) (broadcastInDim S32x8732x4 ![] bcast_S_S32x8732x4 (constant S_ .f32 0x3F000000#32)))

/-- The localisation sum. -/
def locSum (P Q : FVec Ideal S32x8732x4 .f32) (T : IVec S32x8732 32) : FVec Ideal S_ .f32 :=
  Host.reduceAdd (mulf (boxes P Q) (broadcastInDim S32x8732x4 ![0, 1, 2] bcast_S32x8732x1_S32x8732x4_0_1_2
    (uitofp .f32 (broadcastInDim S32x8732x1 ![0, 1] bcast_S32x8732_S32x8732x1_0_1 (isPos T)))))
    (constant S_ .f32 0x00000000#32) reducesTo_S32x8732x4_S_d0_1_2 h_S_

/-- The classification sum. -/
def clsSum (X : FVec Ideal S32x8732x81 .f32) (T : IVec S32x8732 32) : FVec Ideal S_ .f32 :=
  Host.reduceAdd (select (ori (isPos T) (hard X T)) (loss X T)
    (broadcastInDim S32x8732 ![] bcast_S_S32x8732 (id (constant S_ .f32 0x00000000#32))))
    (constant S_ .f32 0x00000000#32) reducesTo_S32x8732_S_d0_1 h_S_

/-- The number of positives. -/
def posSum (T : IVec S32x8732 32) : FVec Ideal S_ .f32 :=
  Host.reduceAdd (uitofp .f32 (isPos T)) (constant S_ .f32 0x00000000#32) reducesTo_S32x8732_S_d0_1 h_S_

theorem res_eq (m : (ℓ : Loc nD τ sig) → Buf (Elt Ideal) ℓ) (c : Dev nD) :
    Value.res_main_v47 (F := Ideal) m c
      = Host.divf (addf (locSum (m ((c.tc : Thread nD τ).loc main_arg0)) (m ((c.tc : Thread nD τ).loc main_arg1)) (m ((c.tc : Thread nD τ).loc main_arg3)))
          (clsSum (m ((c.tc : Thread nD τ).loc main_arg2)) (m ((c.tc : Thread nD τ).loc main_arg3))))
        (posSum (m ((c.tc : Thread nD τ).loc main_arg3))) := rfl

end Cert.ReferenceIdeal.Hand
end
-- ==== Proof.RRead.lean ====
/- The reference's stages at an index, as numbers. -/
module

public import proofs.«01_k».proof.Proof.RVal
public import Idealize.ShloMosaic.Lib.Tactic.CleanTypes

@[expose] public section
set_option maxRecDepth 16384
noncomputable section
namespace Cert.ReferenceIdeal.Hand
open Idealize.ShloMosaic Idealize.ShloMosaic.TcCoe Cert.ReferenceIdeal Cert.ReferenceIdeal.Gen Cert.Rank
open Cert.KernelIdeal.Hand (npos quota offer lossOf smooth sgt_target coe_sum ideal_log_pos sum_exp_pos lossOf_nonneg npos_real npos_le)

/-- The inputs the classification reads: finite logits `y`, targets `t` inside the table. -/
structure Inputs (X : FVec Ideal S32x8732x81 .f32) (T : IVec S32x8732 32) (y : Fin 32 → Fin 8732 → Fin 81 → ℝ) (t : Fin 32 → Fin 8732 → Fin 81) : Prop where
  logit : ∀ n a j, X (ix3 n a j) = ((y n a j : ℝ) : EReal)
  target : ∀ n a, T (ix2 n a) = BitVec.ofNat 32 (t n a).val

variable {X : FVec Ideal S32x8732x81 .f32} {T : IVec S32x8732 32} {y : Fin 32 → Fin 8732 → Fin 81 → ℝ} {t : Fin 32 → Fin 8732 → Fin 81}

theorem isPos_at (h : Inputs X T y t) (n : Fin 32) (a : Fin 8732) : isPos T (ix2 n a) = if (t n a).val = 0 then 0#1 else 1#1 := by
  pointwise [isPos]
  rw [h.target n a, sgt_target]

theorem clip_target (s : Fin 81) : IntOp.minsi 80#32 (IntOp.maxsi 0#32 (BitVec.ofNat 32 s.val)) = BitVec.ofNat 32 s.val := by
  revert s; decide

theorem clipped_at (h : Inputs X T y t) (n : Fin 32) (a : Fin 8732) : clipped T (ix3 n a 0) = BitVec.ofNat 32 (t n a).val := by
  pointwise [clipped]
  rw [h.target n a]
  exact clip_target _

theorem wrap_target (s : Fin 81) : Scalar.select (IntOp.cmpi .slt (BitVec.ofNat 32 s.val) 0#32) (IntOp.addi (BitVec.ofNat 32 s.val) 81#32) (BitVec.ofNat 32 s.val)
    = BitVec.ofNat 32 s.val := by
  revert s; decide

theorem starts_at (h : Inputs X T y t) (n : Fin 32) (a : Fin 8732) : starts T (ix4 n a 0 0) = BitVec.ofNat 32 (t n a).val := by
  pointwise [starts]
  rw [clipped_at h]
  exact wrap_target _

theorem inside_target (s : Fin 81) : IntOp.andi (IntOp.cmpi .sge (BitVec.ofNat 32 s.val) 0#32) (IntOp.cmpi .sle (BitVec.ofNat 32 s.val) 80#32) = 1#1 := by
  revert s; decide

theorem inside_at (h : Inputs X T y t) (n : Fin 32) (a : Fin 8732) : inside T (ix3 n a 0) = 1#1 := by
  pointwise [inside]
  have e : ∀ x : Fin 1, IntOp.andi (IntOp.cmpi .sge (starts T (ix4 n a 0 x)) 0#32) (IntOp.cmpi .sle (starts T (ix4 n a 0 x)) 80#32) = 1#1 := by
    intro x
    rw [Subsingleton.elim x 0, starts_at h]
    exact inside_target _
  simp only [e]
  rfl

/-- The gather along the classes reads the class its start index names. -/
theorem gather_at {α : Type} (X : S32x8732x81.Idx → α) (W : IVec S32x8732x1x1 32) (n : Fin 32) (a : Fin 8732) (s : Fin 81)
    (hW : W (ix4 n a 0 0) = BitVec.ofNat 32 s.val) :
    Host.gather gather_S32x8732x81_S32x8732x1x1_S32x8732x1_n_2_01_01_2_3_111 X W (ix3 n a 0) = X (ix3 n a s) := by
  unfold Host.gather
  congr 1
  funext b
  fin_cases b
  · apply Fin.ext
    exact (Nat.add_zero _).trans (Nat.zero_add n.val)
  · apply Fin.ext
    exact (Nat.add_zero _).trans (Nat.zero_add a.val)
  · apply Fin.ext
    have e : ∀ c, (gather_S32x8732x81_S32x8732x1x1_S32x8732x1_n_2_01_01_2_3_111).siIdx (ix3 n a 0) c = ix4 n a 0 0 := by
      intro c
      funext b
      fin_cases b
      · rfl
      · rfl
      · rfl
      · exact Subsingleton.elim (α := Fin 1) _ _
    have e2 : ((gather_S32x8732x81_S32x8732x1x1_S32x8732x1_n_2_01_01_2_3_111).operandIdx (ix3 n a 0) W 2).val
        = min (W ((gather_S32x8732x81_S32x8732x1x1_S32x8732x1_n_2_01_01_2_3_111).siIdx (ix3 n a 0) ⟨0, by decide⟩)).toInt.toNat 80 := rfl
    refine e2.trans ?_
    rw [e, hW, StableHlo.Predicate.toInt_ofNat_small _ (by have := s.isLt; omega), Int.toNat_natCast]
    have := s.isLt
    exact min_eq_left (by omega)

theorem picked_at (h : Inputs X T y t) (n : Fin 32) (a : Fin 8732) : picked X T (ix2 n a) = ((y n a (t n a) : ℝ) : EReal) := by
  pointwise [picked]
  rw [inside_at h, gather_at X _ n a (t n a) (starts_at h n a), h.logit]
  rfl

theorem slt_target (s : Fin 81) : IntOp.cmpi .slt (BitVec.ofNat 32 s.val) 0#32 = 0#1 := by
  revert s; decide

theorem loss_at (h : Inputs X T y t) (n : Fin 32) (a : Fin 8732) : loss X T (ix2 n a) = ((lossOf (y n a) (t n a) : ℝ) : EReal) := by
  pointwise [loss]
  rw [picked_at h, h.target, slt_target]
  simp only [h.logit, Ideal.exp_coe, coe_sum]
  rw [ideal_log_pos _ (sum_exp_pos (y n a)), ← EReal.coe_sub]
  rfl

/-- The loss of each anchor of a row. -/
abbrev lossRow (y : Fin 32 → Fin 8732 → Fin 81 → ℝ) (t : Fin 32 → Fin 8732 → Fin 81) (n : Fin 32) (a : Fin 8732) : ℝ := lossOf (y n a) (t n a)

theorem uitofp_pos (h : Inputs X T y t) (n : Fin 32) (a : Fin 8732) :
    (FloatOps.uitofp (F := Ideal) .f32 (isPos T (ix2 n a)) : EReal) = (((if (t n a).val = 0 then 0 else 1 : ℝ)) : EReal) := by
  rw [isPos_at h]
  split_ifs
  · show (((0#1 : BitVec 1).toNat : ℝ) : EReal) = _
    simp
  · show (((1#1 : BitVec 1).toNat : ℝ) : EReal) = _
    simp

theorem masked_at (h : Inputs X T y t) (n : Fin 32) (a : Fin 8732) :
    masked X T (ix2 n a) = ((-(offer (t n) (lossRow y t n) a) : ℝ) : EReal) := by
  pointwise [masked]
  rw [loss_at h, uitofp_pos h, ← EReal.coe_one, ← EReal.coe_sub, ← EReal.coe_mul]
  unfold offer lossRow
  congr 1
  split_ifs <;> ring

theorem allowed_at (h : Inputs X T y t) (n : Fin 32) : allowed T (ix1 n) = BitVec.ofNat 32 (3 * npos (t n)) := by
  pointwise [allowed]
  rw [IndicatorCount.fold_addi_setWidth_eq_card]
  have e : (Finset.univ.filter fun x => isPos T (ix2 n x) = 1#1) = Finset.univ.filter fun x => (t n x).val ≠ 0 := by
    refine Finset.filter_congr fun x _ => ?_
    rw [isPos_at h]
    split_ifs with h0 <;> simp [h0]
  rw [e]
  show 3#32 * BitVec.ofNat 32 (npos (t n)) = _
  rw [BitVec.ofNat_mul]

/-- The hard negatives of a row. -/
abbrev hardSet (X : FVec Ideal S32x8732x81 .f32) (T : IVec S32x8732 32) (t : Fin 32 → Fin 8732 → Fin 81) (n : Fin 32) : Finset (Fin 8732) :=
  kept (masked X T) n (3 * npos (t n))

theorem hard_at (h : Inputs X T y t) (n : Fin 32) (a : Fin 8732) :
    hard X T (ix2 n a) = if a ∈ hardSet X T t n then 1#1 else 0#1 := by
  pointwise [hard]
  rw [allowed_at h]
  have hp := npos_le (t n)
  have hr := rank_lt (masked X T) n a
  have e := StableHlo.Predicate.slt_iff_toNat (a := rank (masked X T) (ix2 n a)) (b := BitVec.ofNat 32 (3 * npos (t n)))
    (by omega) (by rw [BitVec.toNat_ofNat, Nat.mod_eq_of_lt (by omega)]; omega)
  rw [BitVec.toNat_ofNat, Nat.mod_eq_of_lt (by omega)] at e
  have hm : a ∈ hardSet X T t n ↔ (rank (masked X T) (ix2 n a)).toNat < 3 * npos (t n) := by
    simp [hardSet, kept]
  split_ifs with hc
  · exact e.2 (hm.1 hc)
  · exact Cert.KernelIdeal.Hand.eq_zero_of_ne_one _ fun h1 => hc (hm.2 (e.1 h1))

theorem locSum_eq (h : Inputs X T y t) (P Q : FVec Ideal S32x8732x4 .f32) :
    locSum P Q T ix0 = ∑ n : Fin 32, ∑ a : Fin 8732, ∑ c : Fin 4,
      smooth (P (ix3 n a c) - Q (ix3 n a c)) * (((if (t n a).val = 0 then 0 else 1 : ℝ)) : EReal) := by
  pointwise [locSum, boxes]
  simp only [uitofp_pos h]
  rfl

theorem clsSum_eq (h : Inputs X T y t) :
    clsSum X T ix0 = ((∑ n : Fin 32, ((∑ a, lossRow y t n a * (if (t n a).val = 0 then 0 else 1))
      + ∑ a ∈ hardSet X T t n, offer (t n) (lossRow y t n) a) : ℝ) : EReal) := by
  pointwise [clsSum]
  rw [← coe_sum]
  refine Finset.sum_congr rfl fun n _ => ?_
  have e : ∀ a : Fin 8732, Scalar.select (IntOp.ori (isPos T (ix2 n a)) (hard X T (ix2 n a))) (loss X T (ix2 n a)) (id (constant (F := Ideal) S_ .f32 0#32) ix0)
      = ((lossRow y t n a * (if (t n a).val = 0 then 0 else 1) + (if a ∈ hardSet X T t n then offer (t n) (lossRow y t n) a else 0) : ℝ) : EReal) := by
    intro a
    have hz : (id (constant (F := Ideal) S_ .f32 0#32) ix0 : EReal) = ((0 : ℝ) : EReal) := by
      show Ideal.ofBits .f32 0#32 = _
      simp [Ideal.ofBits, Ideal.ieee]
    rw [isPos_at h, hard_at h, loss_at h, hz]
    unfold offer
    by_cases h0 : (t n a).val = 0 <;> by_cases h1 : a ∈ hardSet X T t n <;> simp only [h0, h1, if_true, if_false] <;>
      simp [Scalar.select, IntOp.ori]
  rw [Finset.sum_congr rfl fun a _ => e a, coe_sum, Finset.sum_add_distrib, Finset.sum_ite_mem, Finset.univ_inter]

theorem posSum_eq (h : Inputs X T y t) : posSum T ix0 = ((∑ n : Fin 32, (npos (t n) : ℝ) : ℝ) : EReal) := by
  pointwise [posSum]
  simp only [uitofp_pos h, coe_sum, npos_real]

/-- The hard negatives are as many as the quota, and none outside offers more. -/
theorem hardSet_spec (h : Inputs X T y t) (n : Fin 32) :
    (hardSet X T t n).card = quota (t n) ∧
      ∀ a ∈ hardSet X T t n, ∀ b ∉ hardSet X T t n, offer (t n) (lossRow y t n) b ≤ offer (t n) (lossRow y t n) a := by
  obtain ⟨h1, h2⟩ := kept_spec (masked X T) n (3 * npos (t n))
  refine ⟨h1, fun a ha b hb => ?_⟩
  have := h2 a ha b hb
  rw [masked_at h, masked_at h, EReal.coe_le_coe_iff] at this
  exact neg_le_neg_iff.1 this

end Cert.ReferenceIdeal.Hand
end
-- ==== Proof.PreVal.lean ====
/- What the precondition says of the inputs: finite logits, targets inside the table, and in each row hard negatives
   set apart from the rest. -/
module

public import proofs.«01_k».proof.Proof.RRead
public import proofs.«01_k».proof.Pre_boundary_clear

@[expose] public section
set_option maxRecDepth 16384
noncomputable section
namespace Cert.ReferenceIdeal.Hand
open Idealize.ShloMosaic Idealize.ShloMosaic.TcCoe Cert.ReferenceIdeal Cert.ReferenceIdeal.Gen Cert.Rank Cert.Search
open Cert.KernelIdeal.Hand (npos quota offer lossOf smooth sgt_target coe_sum ideal_log_pos sum_exp_pos lossOf_nonneg npos_real npos_le)

/-- The least loss among a row's hard negatives. -/
def taken (X : FVec Ideal S32x8732x81 .f32) (T : IVec S32x8732 32) : FVec Ideal S32 .f32 :=
  Host.reduce FloatOps.minimumf (select (hard X T) (Host.negf (masked X T))
    (broadcastInDim S32x8732 ![] bcast_S_S32x8732 (id (constant S_ .f32 0x7F800000#32)))) (constant S_ .f32 0x7F800000#32) reducesTo_S32x8732_S32_d1 h_S_

/-- The greatest loss among the rest. -/
def left (X : FVec Ideal S32x8732x81 .f32) (T : IVec S32x8732 32) : FVec Ideal S32 .f32 :=
  Host.reduce FloatOps.maximumf (select (hard X T) (broadcastInDim S32x8732 ![] bcast_S_S32x8732 (id (constant S_ .f32 0xFF800000#32)))
    (Host.negf (masked X T))) (constant S_ .f32 0xFF800000#32) reducesTo_S32x8732_S32_d1 h_S_

/-- Whether a row's hard negatives are clear of the rest. -/
def clear (X : FVec Ideal S32x8732x81 .f32) (T : IVec S32x8732 32) : IVec S32 1 :=
  ori (ori (ori (cmpi .eq (allowed T) (broadcastInDim S32 ![] bcast_S_S32 (constantI S_ 32 0#32)))
        (cmpi .sge (allowed T) (broadcastInDim S32 ![] bcast_S_S32 (constantI S_ 32 8732#32))))
      (cmpf .oeq (taken X T) (broadcastInDim S32 ![] bcast_S_S32 (constant S_ .f32 0x00000000#32))))
    (andi (cmpf .ole (taken X T) (broadcastInDim S32 ![] bcast_S_S32 (constant S_ .f32 0x7F7FFFFF#32)))
      (cmpf .oge (subf (taken X T) (left X T))
        (addf (mulf (taken X T) (broadcastInDim S32 ![] bcast_S_S32 (constant S_ .f32 0x34000000#32)))
          (broadcastInDim S32 ![] bcast_S_S32 (constant S_ .f32 0x00800000#32)))))

variable [Cert.Pre_boundary_clear.Facts]

theorem pre_fst (P Q : FVec Ideal S32x8732x4 .f32) (X : FVec Ideal S32x8732x81 .f32) (T : IVec S32x8732 32)
    (hb : (⟨0, ![]⟩ : Shape).BroadcastsInDim S32x8732x81 ![]) :
    (Cert.Pre_boundary_clear.fn (F := Ideal) P Q X T).1
      = cmpf .olt (Host.absf X) (broadcastInDim S32x8732x81 ![] hb (constant S_ .f32 0x7F800000#32)) := rfl

theorem pre_snd (P Q : FVec Ideal S32x8732x4 .f32) (X : FVec Ideal S32x8732x81 .f32) (T : IVec S32x8732 32) :
    (Cert.Pre_boundary_clear.fn (F := Ideal) P Q X T).2
      = andi (andi (cmpi .sge T (broadcastInDim S32x8732 ![] bcast_S_S32x8732 (constantI S_ 32 0#32)))
            (cmpi .sle T (broadcastInDim S32x8732 ![] bcast_S_S32x8732 (constantI S_ 32 80#32))))
          (broadcastInDim S32x8732 ![0, 1] bcast_S32x1_S32x8732_0_1 (broadcastInDim S32x1 ![0] bcast_S32_S32x1_0 (clear X T))) := rfl

theorem fst_at (X : FVec Ideal S32x8732x81 .f32) (hb : (⟨0, ![]⟩ : Shape).BroadcastsInDim S32x8732x81 ![]) (n : Fin 32) (a : Fin 8732) (j : Fin 81)
    (h : (cmpf .olt (Host.absf X) (broadcastInDim S32x8732x81 ![] hb (constant S_ .f32 0x7F800000#32))) (ix3 n a j) = 1#1) :
    ∃ r : ℝ, X (ix3 n a j) = ((r : ℝ) : EReal) := by
  have e : (cmpf .olt (Host.absf X) (broadcastInDim S32x8732x81 ![] hb (constant S_ .f32 0x7F800000#32))) (ix3 n a j)
      = BitVec.ofBool (decide (FloatOps.absf (X (ix3 n a j)) < Ideal.ofBits .f32 2139095040#32)) := by
    pointwise []
  rw [e, StableHlo.Predicate.ofBool_eq_one_iff, decide_eq_true_iff] at h
  have ht : Ideal.ofBits .f32 2139095040#32 = (⊤ : EReal) := ofBits_top
  rw [ht] at h
  have h' : max (X (ix3 n a j)) (-(X (ix3 n a j))) < (⊤ : EReal) := h
  generalize X (ix3 n a j) = x at h'
  induction x using EReal.rec with
  | bot => simp at h'
  | coe r => exact ⟨r, rfl⟩
  | top => simp at h'

theorem and_one (b c : BitVec 1) : IntOp.andi b c = 1#1 ↔ b = 1#1 ∧ c = 1#1 := by revert b c; decide

theorem or_one (b c : BitVec 1) : IntOp.ori b c = 1#1 ↔ b = 1#1 ∨ c = 1#1 := by revert b c; decide

theorem snd_at (X : FVec Ideal S32x8732x81 .f32) (T : IVec S32x8732 32) (n : Fin 32) (a : Fin 8732)
    (h : (andi (andi (cmpi .sge T (broadcastInDim S32x8732 ![] bcast_S_S32x8732 (constantI S_ 32 0#32)))
            (cmpi .sle T (broadcastInDim S32x8732 ![] bcast_S_S32x8732 (constantI S_ 32 80#32))))
          (broadcastInDim S32x8732 ![0, 1] bcast_S32x1_S32x8732_0_1 (broadcastInDim S32x1 ![0] bcast_S32_S32x1_0 (clear X T)))) (ix2 n a) = 1#1) :
    (∃ s : Fin 81, T (ix2 n a) = BitVec.ofNat 32 s.val) ∧ clear X T (ix1 n) = 1#1 := by
  have e : (andi (andi (cmpi .sge T (broadcastInDim S32x8732 ![] bcast_S_S32x8732 (constantI S_ 32 0#32)))
            (cmpi .sle T (broadcastInDim S32x8732 ![] bcast_S_S32x8732 (constantI S_ 32 80#32))))
          (broadcastInDim S32x8732 ![0, 1] bcast_S32x1_S32x8732_0_1 (broadcastInDim S32x1 ![0] bcast_S32_S32x1_0 (clear X T)))) (ix2 n a)
      = IntOp.andi (IntOp.andi (IntOp.cmpi .sge (T (ix2 n a)) 0#32) (IntOp.cmpi .sle (T (ix2 n a)) 80#32)) (clear X T (ix1 n)) := by
    pointwise []
  rw [e, and_one, and_one] at h
  obtain ⟨⟨h0, h1⟩, h2⟩ := h
  refine ⟨?_, h2⟩
  generalize T (ix2 n a) = w at h0 h1
  have h0' : (0#32).sle w = true := (StableHlo.Predicate.ofBool_eq_one_iff _).1 h0
  have h1' : w.sle 80#32 = true := (StableHlo.Predicate.ofBool_eq_one_iff _).1 h1
  rw [BitVec.sle_iff_toInt_le] at h0' h1'
  have hz : (0#32).toInt = 0 := by decide
  have he : (80#32).toInt = 80 := by decide
  rw [hz] at h0'
  rw [he] at h1'
  rw [BitVec.toInt_eq_toNat_cond] at h0' h1'
  have hlt := w.isLt
  refine ⟨⟨w.toNat, by split_ifs at h0' h1' <;> omega⟩, ?_⟩
  simp

variable {X : FVec Ideal S32x8732x81 .f32} {T : IVec S32x8732 32} {y : Fin 32 → Fin 8732 → Fin 81 → ℝ} {t : Fin 32 → Fin 8732 → Fin 81}

/-- The least loss taken is one of the losses taken, and below them all. -/
theorem taken_spec (h : Inputs X T y t) (n : Fin 32) (hne : (hardSet X T t n).Nonempty) :
    ∃ s ∈ hardSet X T t n, taken X T (ix1 n) = ((offer (t n) (lossRow y t n) s : ℝ) : EReal)
      ∧ ∀ a ∈ hardSet X T t n, offer (t n) (lossRow y t n) s ≤ offer (t n) (lossRow y t n) a := by
  obtain ⟨s, hs, hmin⟩ := Finset.exists_min_image (hardSet X T t n) (offer (t n) (lossRow y t n)) hne
  refine ⟨s, hs, ?_, hmin⟩
  have ht : Ideal.ofBits .f32 2139095040#32 = (⊤ : EReal) := ofBits_top
  pointwise [taken]
  have hz : (id (constant (F := Ideal) S_ .f32 2139095040#32) ix0 : EReal) = ⊤ := ht
  rw [hz, ht]
  have e : ∀ a, Scalar.select (hard X T (ix2 n a)) (-masked X T (ix2 n a)) (⊤ : EReal)
      = if a ∈ hardSet X T t n then ((offer (t n) (lossRow y t n) a : ℝ) : EReal) else ⊤ := by
    intro a
    rw [hard_at h, masked_at h, ← EReal.coe_neg, neg_neg]
    split_ifs <;> rfl
  simp only [e]
  refine le_antisymm ?_ ?_
  · refine (Finset.fold_min_le _).2 (Or.inr ⟨s, Finset.mem_univ _, ?_⟩)
    rw [if_pos hs]
  · refine (Finset.le_fold_min _).2 ⟨le_top, fun a _ => ?_⟩
    split_ifs with ha
    · exact EReal.coe_le_coe_iff.2 (hmin a ha)
    · exact le_top

/-- Every loss left is at most the greatest of them. -/
theorem left_spec (h : Inputs X T y t) (n : Fin 32) (b : Fin 8732) (hb : b ∉ hardSet X T t n) :
    ((offer (t n) (lossRow y t n) b : ℝ) : EReal) ≤ left X T (ix1 n) := by
  have e : left X T (ix1 n) = Finset.fold max (Ideal.ofBits .f32 4286578688#32)
      (fun x => Scalar.select (hard X T (ix2 n x)) (id (constant (F := Ideal) S_ .f32 4286578688#32) ix0) (-masked X T (ix2 n x))) Finset.univ := by
    pointwise [left]
  rw [e]
  refine (Finset.le_fold_max _).2 (Or.inr ⟨b, Finset.mem_univ _, ?_⟩)
  rw [hard_at h, masked_at h, if_neg hb, ← EReal.coe_neg, neg_neg]
  exact le_rfl

theorem grid_eps : grid 872415232 = (2 : ℝ) ^ (-23 : ℤ) := by
  have h1 : 872415232 / 2 ^ 23 = 104 := by norm_num
  have h2 : 872415232 % 2 ^ 23 = 0 := by norm_num
  unfold grid gap
  rw [h1, h2]
  norm_num

theorem grid_tiny : grid 8388608 = (2 : ℝ) ^ (-126 : ℤ) := by
  have h1 : 8388608 / 2 ^ 23 = 1 := by norm_num
  have h2 : 8388608 % 2 ^ 23 = 0 := by norm_num
  unfold grid gap
  rw [h1, h2]
  norm_num

theorem ofBits_eps : Ideal.ofBits .f32 872415232#32 = (((2 : ℝ) ^ (-23 : ℤ) : ℝ) : EReal) := by
  rw [← grid_eps]
  exact ofBits_grid 872415232 (by norm_num)

theorem ofBits_tiny : Ideal.ofBits .f32 8388608#32 = (((2 : ℝ) ^ (-126 : ℤ) : ℝ) : EReal) := by
  rw [← grid_tiny]
  exact ofBits_grid 8388608 (by norm_num)

theorem ofBits_max : Ideal.ofBits .f32 2139095039#32 = ((maxFloat : ℝ) : EReal) :=
  ofBits_grid (top - 1) (by norm_num)

/-- The precondition, read. -/
theorem pre_inputs (P Q : FVec Ideal S32x8732x4 .f32) (X : FVec Ideal S32x8732x81 .f32) (T : IVec S32x8732 32)
    (h1 : (Cert.Pre_boundary_clear.fn (F := Ideal) P Q X T).1 = fun _ => 1#1)
    (h2 : (Cert.Pre_boundary_clear.fn (F := Ideal) P Q X T).2 = fun _ => 1#1) :
    ∃ (y : Fin 32 → Fin 8732 → Fin 81 → ℝ) (t : Fin 32 → Fin 8732 → Fin 81), Inputs X T y t ∧
      ∀ n, 0 < quota (t n) → quota (t n) < 8732 →
        (∃ s ∈ hardSet X T t n, offer (t n) (lossRow y t n) s = 0) ∨
        ∃ s ∈ hardSet X T t n, (∀ a ∈ hardSet X T t n, offer (t n) (lossRow y t n) s ≤ offer (t n) (lossRow y t n) a)
          ∧ offer (t n) (lossRow y t n) s ≤ maxFloat
          ∧ ∀ b ∉ hardSet X T t n, offer (t n) (lossRow y t n) b
              + (offer (t n) (lossRow y t n) s * 2 ^ (-23 : ℤ) + 2 ^ (-126 : ℤ)) ≤ offer (t n) (lossRow y t n) s := by
  have hb : (⟨0, ![]⟩ : Shape).BroadcastsInDim S32x8732x81 ![] := Cert.Pre_boundary_clear.Facts.bcast_S_S32x8732x81
  rw [pre_fst P Q X T hb] at h1
  rw [pre_snd] at h2
  have hx : ∀ n a j, ∃ r : ℝ, X (ix3 n a j) = ((r : ℝ) : EReal) := fun n a j => fst_at X hb n a j (congrFun h1 _)
  have hs := fun n a => snd_at X T n a (congrFun h2 (ix2 n a))
  choose y hy using hx
  choose t ht using fun n a => (hs n a).1
  have hin : Inputs X T y t := ⟨hy, ht⟩
  refine ⟨y, t, hin, fun n hq0 hq1 => ?_⟩
  have hc := (hs n 0).2
  have ec : clear X T (ix1 n) = IntOp.ori
      (IntOp.ori (IntOp.ori (IntOp.cmpi .eq (allowed T (ix1 n)) 0#32) (IntOp.cmpi .sge (allowed T (ix1 n)) 8732#32))
        (BitVec.ofBool (decide (taken X T (ix1 n) = 0))))
      (IntOp.andi (BitVec.ofBool (decide (taken X T (ix1 n) ≤ Ideal.ofBits .f32 2139095039#32)))
        (BitVec.ofBool (decide (taken X T (ix1 n) * Ideal.ofBits .f32 872415232#32 + Ideal.ofBits .f32 8388608#32
          ≤ taken X T (ix1 n) - left X T (ix1 n))))) := by
    pointwise [clear]
  obtain ⟨hcard, -⟩ := hardSet_spec hin n
  obtain ⟨s, hsS, hts, hmin⟩ := taken_spec hin n (Finset.card_pos.1 (by omega))
  have hnp := npos_le (t n)
  have hq : quota (t n) = min (3 * npos (t n)) 8732 := rfl
  rw [ec, or_one, or_one, or_one, and_one, StableHlo.Predicate.ofBool_eq_one_iff, StableHlo.Predicate.ofBool_eq_one_iff,
    StableHlo.Predicate.ofBool_eq_one_iff, decide_eq_true_iff, decide_eq_true_iff, decide_eq_true_iff, allowed_at hin] at hc
  rcases hc with ((hc | hc) | hc) | ⟨hc1, hc2⟩
  · exfalso
    have := congrArg BitVec.toNat (StableHlo.Predicate.cmpi_eq_iff.1 hc)
    rw [BitVec.toNat_ofNat, Nat.mod_eq_of_lt (by omega)] at this
    have h0 : (0#32).toNat = 0 := rfl
    omega
  · exfalso
    have e3 : (BitVec.ofNat 32 (3 * npos (t n))).toNat = 3 * npos (t n) := by
      rw [BitVec.toNat_ofNat, Nat.mod_eq_of_lt (by omega)]
    have := (StableHlo.Predicate.sge_iff_toNat (by rw [e3]; omega) (by decide)).1 hc
    rw [e3] at this
    have h0 : (8732#32).toNat = 8732 := rfl
    omega
  · left
    rw [hts] at hc
    exact ⟨s, hsS, by exact_mod_cast hc⟩
  · right
    have g1 : Ideal.ofBits .f32 2139095039#32 = ((maxFloat : ℝ) : EReal) := ofBits_max
    have g2 : Ideal.ofBits .f32 872415232#32 = (((2 : ℝ) ^ (-23 : ℤ) : ℝ) : EReal) := ofBits_eps
    have g3 : Ideal.ofBits .f32 8388608#32 = (((2 : ℝ) ^ (-126 : ℤ) : ℝ) : EReal) := ofBits_tiny
    rw [hts, g1, EReal.coe_le_coe_iff] at hc1
    rw [hts, g2, g3, ← EReal.coe_mul, ← EReal.coe_add] at hc2
    refine ⟨s, hsS, hmin, hc1, fun b hb' => ?_⟩
    have := hc2.trans (EReal.sub_le_sub le_rfl (left_spec hin n b hb'))
    rw [← EReal.coe_sub, EReal.coe_le_coe_iff] at this
    linarith

end Cert.ReferenceIdeal.Hand
end
-- ==== Proof.Value.lean ====
/- The two programs' results as one extended real. -/
module

public import proofs.«01_k».proof.Proof.KRow
public import proofs.«01_k».proof.Proof.KLoc
public import proofs.«01_k».proof.Proof.KBlk
public import proofs.«01_k».proof.Proof.KRes
public import proofs.«01_k».proof.Proof.PreVal

@[expose] public section
set_option maxRecDepth 16384
noncomputable section
namespace Cert.KernelIdeal.Hand
open Idealize.ShloMosaic Idealize.ShloMosaic.TcCoe Cert.KernelIdeal Cert.KernelIdeal.Gen Cert.Search
open Cert.ReferenceIdeal.Hand (Inputs lossRow hardSet hardSet_spec locSum clsSum posSum locSum_eq clsSum_eq posSum_eq)

/-- A sequence that grows by `f` is a sum of `f`. -/
theorem sum_of_steps (s : ℕ → EReal) (f : Fin 32 → EReal) (h0 : s 0 = 0) (hs : ∀ n : Fin 32, s (n.val + 1) = s n.val + f n) :
    s 32 = ∑ n, f n := by
  have : ∀ k, k ≤ 32 → s k = ∑ i ∈ Finset.range k, if h : i < 32 then f ⟨i, h⟩ else 0 := by
    intro k
    induction k with
    | zero => intro _; simpa using h0
    | succ k ih =>
      intro hk
      rw [Finset.sum_range_succ, ← ih (by omega), dif_pos (by omega : k < 32)]
      exact hs ⟨k, by omega⟩
  rw [this 32 le_rfl, Finset.sum_range]
  exact Finset.sum_congr rfl fun n _ => dif_pos n.isLt

variable (m : (ℓ : Loc nD τ sig) → Buf (Elt Ideal) ℓ) (c : Dev nD)
variable {y : Fin 32 → Fin 8732 → Fin 81 → ℝ} {t : Fin 32 → Fin 8732 → Fin 81}

/-- The row number as a grid point. -/
def point (n : Fin 32) : Fin cfg0.N := ⟨n.val, lt_of_lt_of_eq n.isLt N_0.symm⟩

abbrev argP : FVec Ideal S32x8732x4 .f32 := m ((c : Thread nD τ).loc main_arg0)
abbrev argQ : FVec Ideal S32x8732x4 .f32 := m ((c : Thread nD τ).loc main_arg1)
abbrev argX : FVec Ideal S32x8732x81 .f32 := m ((c : Thread nD τ).loc main_arg2)
abbrev argT : IVec S32x8732 32 := m ((c : Thread nD τ).loc main_arg3)

variable {m c}

theorem coordN (n : Fin 32) : (grid0.coords (point n) 0).val = n.val := coord0 (point n)

/-- The row the body computes at point `n`. -/
theorem row_at (h : Inputs (argX m c) (argT m c) y t) (n : Fin 32) :
    Row (k0_pay2 (F := Ideal) (grid0.coords (point n)) (iblk m c 1 (point n))) (k0_pay5 (iblk m c 0 (point n)))
      (k0_pay6 (grid0.coords (point n)) (iblk m c 1 (point n)) (iblk m c 0 (point n))) (t n) (lossRow y t n) := by
  refine row_of (grid0.coords (point n)) (iblk m c 0 (point n)) (iblk m c 1 (point n)) (y n) (t n) (fun a j => ?_) (fun a => ?_)
  · exact (blk0 m c (point n) a j).trans (h.logit n a j)
  · have e : (⟨(grid0.coords (point n) 0).val % 8, Nat.mod_lt _ (by norm_num)⟩ : Fin 8) = ⟨(point n).val % 8, Nat.mod_lt _ (by norm_num)⟩ :=
      Fin.ext (by rw [coord0])
    rw [e]
    exact (blk1 m c (point n) a).trans (h.target n a)

/-- The hard negatives' margin, as the precondition gives it. -/
def Margin (X : FVec Ideal S32x8732x81 .f32) (T : IVec S32x8732 32) (y : Fin 32 → Fin 8732 → Fin 81 → ℝ) (t : Fin 32 → Fin 8732 → Fin 81) : Prop :=
  ∀ n, 0 < quota (t n) → quota (t n) < 8732 →
        (∃ s ∈ hardSet X T t n, offer (t n) (lossRow y t n) s = 0) ∨
        ∃ s ∈ hardSet X T t n, (∀ a ∈ hardSet X T t n, offer (t n) (lossRow y t n) s ≤ offer (t n) (lossRow y t n) a)
          ∧ offer (t n) (lossRow y t n) s ≤ maxFloat
          ∧ ∀ b ∉ hardSet X T t n, offer (t n) (lossRow y t n) b
              + (offer (t n) (lossRow y t n) s * 2 ^ (-23 : ℤ) + 2 ^ (-126 : ℤ)) ≤ offer (t n) (lossRow y t n) s

theorem zero_word : (Scalar.ofBits (F := Ideal) .f32 0#32 : EReal) = 0 := by
  show Ideal.ofBits .f32 0#32 = (0 : EReal)
  simp [Ideal.ofBits, Ideal.ieee]

theorem cls_total (h : Inputs (argX m c) (argT m c) y t) (hm : Margin (argX m c) (argT m c) y t) :
    (sumsAt m c 32).cls = clsSum (argX m c) (argT m c) ix0 := by
  rw [clsSum_eq h, ← coe_sum]
  refine sum_of_steps (fun k => (sumsAt m c k).cls) _ zero_word fun n => ?_
  have e := congrArg Sums.cls (sumsAt_succ m c (point n))
  refine e.trans ?_
  have hr := row_at h n
  have hs := hardSet_spec h n
  show k0_pay17 (F := Ideal) (k0_pay11 _ _ _) (topOf _ _ _) (sumsAt m c n.val).cls = _
  rw [pay11_eq hr, topOf_eq hr (hardSet (argX m c) (argT m c) t n) hs.1 hs.2 (hm n)]
  show ((sumsAt m c n.val).cls + _ : EReal) + _ = _
  rw [EReal.coe_add, add_assoc]

theorem num_total (h : Inputs (argX m c) (argT m c) y t) :
    (sumsAt m c 32).num = posSum (argT m c) ix0 := by
  rw [posSum_eq h, ← coe_sum]
  refine sum_of_steps (fun k => (sumsAt m c k).num) _ zero_word fun n => ?_
  have e := congrArg Sums.num (sumsAt_succ m c (point n))
  refine e.trans ?_
  show k0_pay19 (k0_pay10 (F := Ideal) _) (sumsAt m c n.val).num = _
  rw [pay10_eq (row_at h n)]
  rfl

theorem sum_mul_ind (f : Fin 4 → EReal) (p : Prop) [Decidable p] :
    (∑ k, f k) * (((if p then 0 else 1 : ℝ)) : EReal) = ∑ k, f k * (((if p then 0 else 1 : ℝ)) : EReal) := by
  split_ifs
  · simp
  · simp

theorem loc_total (h : Inputs (argX m c) (argT m c) y t) :
    (sumsAt m c 32).loc = locSum (argP m c) (argQ m c) (argT m c) ix0 := by
  rw [locSum_eq h]
  refine sum_of_steps (fun k => (sumsAt m c k).loc) _ zero_word fun n => ?_
  have e := congrArg Sums.loc (sumsAt_succ m c (point n))
  refine e.trans ?_
  show k0_pay18 _ (k0_pay9 (F := Ideal) _) (firstRow (BitVec.ofNat 32 (grid0.coords (point n) 0).val)) (k0_pay16 _) _ (sumsAt m c n.val).loc = _
  rw [coordN, pay18_eq n]
  refine congrArg ((sumsAt m c n.val).loc + ·) (Finset.sum_congr rfl fun a _ => ?_)
  rw [pay9_at (row_at h n) a, sum_mul_ind]
  refine Finset.sum_congr rfl fun k _ => ?_
  have e2 := blk2 m c (point n) k a
  have e3 := blk3 m c (point n) k a
  exact congrArg (· * _) (congrArg smooth (congrArg₂ (· - ·) e2 e3))

theorem out_at (a : Sums Ideal) : shapeCast S_ (outOf a) shapeCasts_S1x1_S_ ix0
    = Ideal.div (HAdd.hAdd (α := EReal) a.cls a.loc) a.num := rfl

theorem host_at (u v w : FVec Ideal S_ .f32) : Host.divf (addf u v) w ix0
    = Ideal.div (HAdd.hAdd (α := EReal) (u ix0) (v ix0)) (w ix0) := rfl

/-- The kernel's result is the reference's. -/
theorem result_eq (h : Inputs (argX m c) (argT m c) y t) (hm : Margin (argX m c) (argT m c) y t) :
    shapeCast S_ (outOf (sumsAt m c 32)) shapeCasts_S1x1_S_
      = Host.divf (addf (locSum (argP m c) (argQ m c) (argT m c)) (clsSum (argX m c) (argT m c))) (posSum (argT m c)) := by
  funext i
  have hi : i = ix0 := by funext a; exact a.elim0
  subst hi
  rw [out_at, host_at, cls_total h hm, loc_total h, num_total h, add_comm]

end Cert.KernelIdeal.Hand
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_boundary_clear
public import proofs.«01_k».proof.Proof.Gen.ReferenceIdeal.Run
public import proofs.«01_k».proof.Proof.FrameK
public import proofs.«01_k».proof.Proof.Value

@[expose] public section
noncomputable section
namespace Cert.Proof
open Idealize.ShloMosaic Idealize.SL.Sem

/-- The reference's run: its arguments unchanged, and it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- At the ideal instance the kernel's result is the reference's, where the precondition holds. -/
theorem algebraic : Cert.algebraic_KernelIdeal_ReferenceIdeal_pre_boundary_clear := by
  intro m ρ m' ρ' hpre hagree
  refine ⟨fun c => _, Cert.KernelIdeal.Hand.run m ρ, ?_⟩
  refine (θ_run Cert.ReferenceIdeal.defs _ _).mono (fun r h c => ⟨(h c).1.trans ?_, (h c).2⟩) (Cert.ReferenceIdeal.Value.run (F := Ideal) m' ρ')
  obtain ⟨y, t, hin, hm⟩ := Cert.ReferenceIdeal.Hand.pre_inputs _ _ _ _ (hpre c).1 (hpre c).2
  obtain ⟨h0, h1, h2, h3⟩ := hagree c
  rw [Cert.ReferenceIdeal.Hand.res_eq, h0, h1, h2, h3]
  exact (Cert.KernelIdeal.Hand.result_eq hin hm).symm

theorem claim : Cert.Claim :=
  ⟨Cert.Kernel.Gen.facts, Cert.KernelIdeal.Gen.facts, Cert.ReferenceIdeal.Gen.facts, Cert.Pre_boundary_clear.Gen.facts,
    frame_kernel, fun m ρ _ => Cert.KernelIdeal.Hand.frame m ρ, fun m ρ _ => Cert.KernelIdeal.Hand.frame m ρ,
    frame_reference, fun m ρ _ => frame_reference m ρ trivial, trivial, algebraic⟩

end Cert.Proof
end
